-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S1024x512 .f32) (main_arg1 : FVec F S512x128 .f32) (main_arg2 : IVec S1024x1 32) (main_arg3 : FVec F S4x512x1024 .f32) (main_arg4 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_scores_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S1024x512 .f32) (main_arg1 : FVec F S512x128 .f32) (main_arg2 : IVec S1024x1 32) (main_arg3 : FVec F S128x512x1024 .f32) (main_arg4 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S32x1024 : Shape := ⟨2, ![32, 1024]⟩
abbrev S1024x1024 : Shape := ⟨2, ![1024, 1024]⟩
abbrev S32x32x1024 : Shape := ⟨3, ![32, 32, 1024]⟩
abbrev S32 : Shape := ⟨1, ![32]⟩
abbrev S_ : Shape := ⟨0, ![]⟩
abbrev S1024x128 : Shape := ⟨2, ![1024, 128]⟩
abbrev S1024 : Shape := ⟨1, ![1024]⟩
abbrev S1x512x1024 : Shape := ⟨3, ![1, 512, 1024]⟩
abbrev S1 : Shape := ⟨1, ![1]⟩
abbrev S1x32x1024 : Shape := ⟨3, ![1, 32, 1024]⟩
abbrev S32x512 : Shape := ⟨2, ![32, 512]⟩
abbrev S31x32x1024 : Shape := ⟨3, ![31, 32, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S32x1024, .f32⟩
  | .local _ .vmem, ⟨0, _⟩ => ⟨S1024x512, .f32⟩
  | .local _ .vmem, ⟨1, _⟩ => ⟨S512x128, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S32x1024, .f32⟩
  | .local _ .vmem, ⟨6, _⟩ => ⟨S1024x1024, .bf16⟩
  | .local _ .vmem, ⟨7, _⟩ => ⟨S32x32x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 2 70 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.subi v2 c1_i32_0
  let c32_i32_1 : BitVec 32 := 32#32
  let v5 : BitVec 32 := Scalar.addi v4 c32_i32_1
  let c32_i32_2 : BitVec 32 := 32#32
  let v6 : BitVec 32 := Scalar.remsi v5 c32_i32_2
  let c1_i32_4 : BitVec 32 := 1#32
  let v7 : BitVec 32 := Scalar.muli v6 c1_i32_4
  let v8 : BitVec 32 := Scalar.addi c0_i32 v7
  v8.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v9 : BitVec 32 := Scalar.subi v2 c2_i32
  let c32_i32_5 : BitVec 32 := 32#32
  let v10 : BitVec 32 := Scalar.addi v9 c32_i32_5
  let c32_i32_6 : BitVec 32 := 32#32
  let v11 : BitVec 32 := Scalar.remsi v10 c32_i32_6
  let c1_i32_8 : BitVec 32 := 1#32
  let v12 : BitVec 32 := Scalar.muli v11 c1_i32_8
  let v13 : BitVec 32 := Scalar.addi c0_i32_9 v12
  v13.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v14 : BitVec 32 := Scalar.subi v2 c3_i32
  let c32_i32_10 : BitVec 32 := 32#32
  let v15 : BitVec 32 := Scalar.addi v14 c32_i32_10
  let c32_i32_11 : BitVec 32 := 32#32
  let v16 : BitVec 32 := Scalar.remsi v15 c32_i32_11
  let c1_i32_13 : BitVec 32 := 1#32
  let v17 : BitVec 32 := Scalar.muli v16 c1_i32_13
  let v18 : BitVec 32 := Scalar.addi c0_i32_14 v17
  v18.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v19 : BitVec 32 := Scalar.subi v2 c4_i32
  let c32_i32_15 : BitVec 32 := 32#32
  let v20 : BitVec 32 := Scalar.addi v19 c32_i32_15
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v24 : BitVec 32 := Scalar.subi v2 c5_i32
  let c32_i32_20 : BitVec 32 := 32#32
  let v25 : BitVec 32 := Scalar.addi v24 c32_i32_20
  let c32_i32_21 : BitVec 32 := 32#32
  let v26 : BitVec 32 := Scalar.remsi v25 c32_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v29 : BitVec 32 := Scalar.subi v2 c6_i32
  let c32_i32_25 : BitVec 32 := 32#32
  let v30 : BitVec 32 := Scalar.addi v29 c32_i32_25
  let c32_i32_26 : BitVec 32 := 32#32
  let v31 : BitVec 32 := Scalar.remsi v30 c32_i32_26
  let c1_i32_28 : BitVec 32 := 1#32
  let v32 : BitVec 32 := Scalar.muli v31 c1_i32_28
  let v33 : BitVec 32 := Scalar.addi c0_i32_29 v32
  v33.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v34 : BitVec 32 := Scalar.subi v2 c7_i32
  let c32_i32_30 : BitVec 32 := 32#32
  let v35 : BitVec 32 := Scalar.addi v34 c32_i32_30
  let c32_i32_31 : BitVec 32 := 32#32
  let v36 : BitVec 32 := Scalar.remsi v35 c32_i32_31
  let c1_i32_33 : BitVec 32 := 1#32
  let v37 : BitVec 32 := Scalar.muli v36 c1_i32_33
  let v38 : BitVec 32 := Scalar.addi c0_i32_34 v37
  v38.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v39 : BitVec 32 := Scalar.subi v2 c8_i32
  let c32_i32_35 : BitVec 32 := 32#32
  let v40 : BitVec 32 := Scalar.addi v39 c32_i32_35
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v44 : BitVec 32 := Scalar.subi v2 c9_i32
  let c32_i32_40 : BitVec 32 := 32#32
  let v45 : BitVec 32 := Scalar.addi v44 c32_i32_40
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v49 : BitVec 32 := Scalar.subi v2 c10_i32
  let c32_i32_45 : BitVec 32 := 32#32
  let v50 : BitVec 32 := Scalar.addi v49 c32_i32_45
  let c32_i32_46 : BitVec 32 := 32#32
  let v51 : BitVec 32 := Scalar.remsi v50 c32_i32_46
  let c1_i32_48 : BitVec 32 := 1#32
  let v52 : BitVec 32 := Scalar.muli v51 c1_i32_48
  let v53 : BitVec 32 := Scalar.addi c0_i32_49 v52
  v53.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v54 : BitVec 32 := Scalar.subi v2 c11_i32
  let c32_i32_50 : BitVec 32 := 32#32
  let v55 : BitVec 32 := Scalar.addi v54 c32_i32_50
  let c32_i32_51 : BitVec 32 := 32#32
  let v56 : BitVec 32 := Scalar.remsi v55 c32_i32_51
  let c1_i32_53 : BitVec 32 := 1#32
  let v57 : BitVec 32 := Scalar.muli v56 c1_i32_53
  let v58 : BitVec 32 := Scalar.addi c0_i32_54 v57
  v58.toNat
def k0_dev12 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v59 : BitVec 32 := Scalar.subi v2 c12_i32
  let c32_i32_55 : BitVec 32 := 32#32
  let v60 : BitVec 32 := Scalar.addi v59 c32_i32_55
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v64 : BitVec 32 := Scalar.subi v2 c13_i32
  let c32_i32_60 : BitVec 32 := 32#32
  let v65 : BitVec 32 := Scalar.addi v64 c32_i32_60
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev14 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v69 : BitVec 32 := Scalar.subi v2 c14_i32
  let c32_i32_65 : BitVec 32 := 32#32
  let v70 : BitVec 32 := Scalar.addi v69 c32_i32_65
  let c32_i32_66 : BitVec 32 := 32#32
  let v71 : BitVec 32 := Scalar.remsi v70 c32_i32_66
  let c1_i32_68 : BitVec 32 := 1#32
  let v72 : BitVec 32 := Scalar.muli v71 c1_i32_68
  let v73 : BitVec 32 := Scalar.addi c0_i32_69 v72
  v73.toNat
def k0_dev15 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v74 : BitVec 32 := Scalar.subi v2 c15_i32
  let c32_i32_70 : BitVec 32 := 32#32
  let v75 : BitVec 32 := Scalar.addi v74 c32_i32_70
  let c32_i32_71 : BitVec 32 := 32#32
  let v76 : BitVec 32 := Scalar.remsi v75 c32_i32_71
  let c1_i32_73 : BitVec 32 := 1#32
  let v77 : BitVec 32 := Scalar.muli v76 c1_i32_73
  let v78 : BitVec 32 := Scalar.addi c0_i32_74 v77
  v78.toNat
def k0_dev16 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v79 : BitVec 32 := Scalar.subi v2 c16_i32
  let c32_i32_75 : BitVec 32 := 32#32
  let v80 : BitVec 32 := Scalar.addi v79 c32_i32_75
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v84 : BitVec 32 := Scalar.subi v2 c17_i32
  let c32_i32_80 : BitVec 32 := 32#32
  let v85 : BitVec 32 := Scalar.addi v84 c32_i32_80
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v89 : BitVec 32 := Scalar.subi v2 c18_i32
  let c32_i32_85 : BitVec 32 := 32#32
  let v90 : BitVec 32 := Scalar.addi v89 c32_i32_85
  let c32_i32_86 : BitVec 32 := 32#32
  let v91 : BitVec 32 := Scalar.remsi v90 c32_i32_86
  let c1_i32_88 : BitVec 32 := 1#32
  let v92 : BitVec 32 := Scalar.muli v91 c1_i32_88
  let v93 : BitVec 32 := Scalar.addi c0_i32_89 v92
  v93.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v94 : BitVec 32 := Scalar.subi v2 c19_i32
  let c32_i32_90 : BitVec 32 := 32#32
  let v95 : BitVec 32 := Scalar.addi v94 c32_i32_90
  let c32_i32_91 : BitVec 32 := 32#32
  let v96 : BitVec 32 := Scalar.remsi v95 c32_i32_91
  let c1_i32_93 : BitVec 32 := 1#32
  let v97 : BitVec 32 := Scalar.muli v96 c1_i32_93
  let v98 : BitVec 32 := Scalar.addi c0_i32_94 v97
  v98.toNat
def k0_dev20 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v99 : BitVec 32 := Scalar.subi v2 c20_i32
  let c32_i32_95 : BitVec 32 := 32#32
  let v100 : BitVec 32 := Scalar.addi v99 c32_i32_95
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev21 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v104 : BitVec 32 := Scalar.subi v2 c21_i32
  let c32_i32_100 : BitVec 32 := 32#32
  let v105 : BitVec 32 := Scalar.addi v104 c32_i32_100
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev22 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v109 : BitVec 32 := Scalar.subi v2 c22_i32
  let c32_i32_105 : BitVec 32 := 32#32
  let v110 : BitVec 32 := Scalar.addi v109 c32_i32_105
  let c32_i32_106 : BitVec 32 := 32#32
  let v111 : BitVec 32 := Scalar.remsi v110 c32_i32_106
  let c1_i32_108 : BitVec 32 := 1#32
  let v112 : BitVec 32 := Scalar.muli v111 c1_i32_108
  let v113 : BitVec 32 := Scalar.addi c0_i32_109 v112
  v113.toNat
def k0_dev23 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v114 : BitVec 32 := Scalar.subi v2 c23_i32
  let c32_i32_110 : BitVec 32 := 32#32
  let v115 : BitVec 32 := Scalar.addi v114 c32_i32_110
  let c32_i32_111 : BitVec 32 := 32#32
  let v116 : BitVec 32 := Scalar.remsi v115 c32_i32_111
  let c1_i32_113 : BitVec 32 := 1#32
  let v117 : BitVec 32 := Scalar.muli v116 c1_i32_113
  let v118 : BitVec 32 := Scalar.addi c0_i32_114 v117
  v118.toNat
def k0_dev24 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v119 : BitVec 32 := Scalar.subi v2 c24_i32
  let c32_i32_115 : BitVec 32 := 32#32
  let v120 : BitVec 32 := Scalar.addi v119 c32_i32_115
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev25 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v124 : BitVec 32 := Scalar.subi v2 c25_i32
  let c32_i32_120 : BitVec 32 := 32#32
  let v125 : BitVec 32 := Scalar.addi v124 c32_i32_120
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_dev26 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v129 : BitVec 32 := Scalar.subi v2 c26_i32
  let c32_i32_125 : BitVec 32 := 32#32
  let v130 : BitVec 32 := Scalar.addi v129 c32_i32_125
  let c32_i32_126 : BitVec 32 := 32#32
  let v131 : BitVec 32 := Scalar.remsi v130 c32_i32_126
  let c1_i32_128 : BitVec 32 := 1#32
  let v132 : BitVec 32 := Scalar.muli v131 c1_i32_128
  let v133 : BitVec 32 := Scalar.addi c0_i32_129 v132
  v133.toNat
def k0_dev27 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v134 : BitVec 32 := Scalar.subi v2 c27_i32
  let c32_i32_130 : BitVec 32 := 32#32
  let v135 : BitVec 32 := Scalar.addi v134 c32_i32_130
  let c32_i32_131 : BitVec 32 := 32#32
  let v136 : BitVec 32 := Scalar.remsi v135 c32_i32_131
  let c1_i32_133 : BitVec 32 := 1#32
  let v137 : BitVec 32 := Scalar.muli v136 c1_i32_133
  let v138 : BitVec 32 := Scalar.addi c0_i32_134 v137
  v138.toNat
def k0_dev28 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v139 : BitVec 32 := Scalar.subi v2 c28_i32
  let c32_i32_135 : BitVec 32 := 32#32
  let v140 : BitVec 32 := Scalar.addi v139 c32_i32_135
  let c32_i32_136 : BitVec 32 := 32#32
  let v141 : BitVec 32 := Scalar.remsi v140 c32_i32_136
  let c1_i32_138 : BitVec 32 := 1#32
  let v142 : BitVec 32 := Scalar.muli v141 c1_i32_138
  let v143 : BitVec 32 := Scalar.addi c0_i32_139 v142
  v143.toNat
def k0_dev29 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v144 : BitVec 32 := Scalar.subi v2 c29_i32
  let c32_i32_140 : BitVec 32 := 32#32
  let v145 : BitVec 32 := Scalar.addi v144 c32_i32_140
  let c32_i32_141 : BitVec 32 := 32#32
  let v146 : BitVec 32 := Scalar.remsi v145 c32_i32_141
  let c1_i32_143 : BitVec 32 := 1#32
  let v147 : BitVec 32 := Scalar.muli v146 c1_i32_143
  let v148 : BitVec 32 := Scalar.addi c0_i32_144 v147
  v148.toNat
def k0_dev30 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v149 : BitVec 32 := Scalar.subi v2 c30_i32
  let c32_i32_145 : BitVec 32 := 32#32
  let v150 : BitVec 32 := Scalar.addi v149 c32_i32_145
  let c32_i32_146 : BitVec 32 := 32#32
  let v151 : BitVec 32 := Scalar.remsi v150 c32_i32_146
  let c1_i32_148 : BitVec 32 := 1#32
  let v152 : BitVec 32 := Scalar.muli v151 c1_i32_148
  let v153 : BitVec 32 := Scalar.addi c0_i32_149 v152
  v153.toNat
def k0_dev31 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v154 : BitVec 32 := Scalar.subi v2 c31_i32
  let c32_i32_150 : BitVec 32 := 32#32
  let v155 : BitVec 32 := Scalar.addi v154 c32_i32_150
  let c32_i32_151 : BitVec 32 := 32#32
  let v156 : BitVec 32 := Scalar.remsi v155 c32_i32_151
  let c1_i32_153 : BitVec 32 := 1#32
  let v157 : BitVec 32 := Scalar.muli v156 c1_i32_153
  let v158 : BitVec 32 := Scalar.addi c0_i32_154 v157
  v158.toNat
def k0_off1 (d0 : Dev nD) (c1_i32_201 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v250 : BitVec 32 := Scalar.addi v2 c1_i32_201
  let c32_i32_202 : BitVec 32 := 32#32
  let v251 : BitVec 32 := Scalar.remsi v250 c32_i32_202
  let c32_i32_203 : BitVec 32 := 32#32
  let v252 : BitVec 32 := Scalar.muli v251 c32_i32_203
  let c0_i32_211 : BitVec 32 := 0#32
  ![v252.toNat, 0]
def k0_dev32 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_201 : BitVec 32 := 1#32
  let v250 : BitVec 32 := Scalar.addi v2 c1_i32_201
  let c32_i32_202 : BitVec 32 := 32#32
  let v251 : BitVec 32 := Scalar.remsi v250 c32_i32_202
  let c1_i32_207 : BitVec 32 := 1#32
  let v253 : BitVec 32 := Scalar.muli v251 c1_i32_207
  let v254 : BitVec 32 := Scalar.addi c0_i32_208 v253
  v254.toNat
def k0_dev33 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_212 : BitVec 32 := 2#32
  let v262 : BitVec 32 := Scalar.addi v2 c2_i32_212
  let c32_i32_213 : BitVec 32 := 32#32
  let v263 : BitVec 32 := Scalar.remsi v262 c32_i32_213
  let c1_i32_218 : BitVec 32 := 1#32
  let v265 : BitVec 32 := Scalar.muli v263 c1_i32_218
  let v266 : BitVec 32 := Scalar.addi c0_i32_219 v265
  v266.toNat
def k0_dev34 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_223 : BitVec 32 := 3#32
  let v274 : BitVec 32 := Scalar.addi v2 c3_i32_223
  let c32_i32_224 : BitVec 32 := 32#32
  let v275 : BitVec 32 := Scalar.remsi v274 c32_i32_224
  let c1_i32_229 : BitVec 32 := 1#32
  let v277 : BitVec 32 := Scalar.muli v275 c1_i32_229
  let v278 : BitVec 32 := Scalar.addi c0_i32_230 v277
  v278.toNat
def k0_dev35 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_234 : BitVec 32 := 4#32
  let v286 : BitVec 32 := Scalar.addi v2 c4_i32_234
  let c32_i32_235 : BitVec 32 := 32#32
  let v287 : BitVec 32 := Scalar.remsi v286 c32_i32_235
  let c1_i32_240 : BitVec 32 := 1#32
  let v289 : BitVec 32 := Scalar.muli v287 c1_i32_240
  let v290 : BitVec 32 := Scalar.addi c0_i32_241 v289
  v290.toNat
def k0_dev36 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_245 : BitVec 32 := 5#32
  let v298 : BitVec 32 := Scalar.addi v2 c5_i32_245
  let c32_i32_246 : BitVec 32 := 32#32
  let v299 : BitVec 32 := Scalar.remsi v298 c32_i32_246
  let c1_i32_251 : BitVec 32 := 1#32
  let v301 : BitVec 32 := Scalar.muli v299 c1_i32_251
  let v302 : BitVec 32 := Scalar.addi c0_i32_252 v301
  v302.toNat
def k0_dev37 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_256 : BitVec 32 := 6#32
  let v310 : BitVec 32 := Scalar.addi v2 c6_i32_256
  let c32_i32_257 : BitVec 32 := 32#32
  let v311 : BitVec 32 := Scalar.remsi v310 c32_i32_257
  let c1_i32_262 : BitVec 32 := 1#32
  let v313 : BitVec 32 := Scalar.muli v311 c1_i32_262
  let v314 : BitVec 32 := Scalar.addi c0_i32_263 v313
  v314.toNat
def k0_dev38 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_267 : BitVec 32 := 7#32
  let v322 : BitVec 32 := Scalar.addi v2 c7_i32_267
  let c32_i32_268 : BitVec 32 := 32#32
  let v323 : BitVec 32 := Scalar.remsi v322 c32_i32_268
  let c1_i32_273 : BitVec 32 := 1#32
  let v325 : BitVec 32 := Scalar.muli v323 c1_i32_273
  let v326 : BitVec 32 := Scalar.addi c0_i32_274 v325
  v326.toNat
def k0_dev39 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_278 : BitVec 32 := 8#32
  let v334 : BitVec 32 := Scalar.addi v2 c8_i32_278
  let c32_i32_279 : BitVec 32 := 32#32
  let v335 : BitVec 32 := Scalar.remsi v334 c32_i32_279
  let c1_i32_284 : BitVec 32 := 1#32
  let v337 : BitVec 32 := Scalar.muli v335 c1_i32_284
  let v338 : BitVec 32 := Scalar.addi c0_i32_285 v337
  v338.toNat
def k0_dev40 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_289 : BitVec 32 := 9#32
  let v346 : BitVec 32 := Scalar.addi v2 c9_i32_289
  let c32_i32_290 : BitVec 32 := 32#32
  let v347 : BitVec 32 := Scalar.remsi v346 c32_i32_290
  let c1_i32_295 : BitVec 32 := 1#32
  let v349 : BitVec 32 := Scalar.muli v347 c1_i32_295
  let v350 : BitVec 32 := Scalar.addi c0_i32_296 v349
  v350.toNat
def k0_dev41 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_300 : BitVec 32 := 10#32
  let v358 : BitVec 32 := Scalar.addi v2 c10_i32_300
  let c32_i32_301 : BitVec 32 := 32#32
  let v359 : BitVec 32 := Scalar.remsi v358 c32_i32_301
  let c1_i32_306 : BitVec 32 := 1#32
  let v361 : BitVec 32 := Scalar.muli v359 c1_i32_306
  let v362 : BitVec 32 := Scalar.addi c0_i32_307 v361
  v362.toNat
def k0_dev42 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_311 : BitVec 32 := 11#32
  let v370 : BitVec 32 := Scalar.addi v2 c11_i32_311
  let c32_i32_312 : BitVec 32 := 32#32
  let v371 : BitVec 32 := Scalar.remsi v370 c32_i32_312
  let c1_i32_317 : BitVec 32 := 1#32
  let v373 : BitVec 32 := Scalar.muli v371 c1_i32_317
  let v374 : BitVec 32 := Scalar.addi c0_i32_318 v373
  v374.toNat
def k0_dev43 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_322 : BitVec 32 := 12#32
  let v382 : BitVec 32 := Scalar.addi v2 c12_i32_322
  let c32_i32_323 : BitVec 32 := 32#32
  let v383 : BitVec 32 := Scalar.remsi v382 c32_i32_323
  let c1_i32_328 : BitVec 32 := 1#32
  let v385 : BitVec 32 := Scalar.muli v383 c1_i32_328
  let v386 : BitVec 32 := Scalar.addi c0_i32_329 v385
  v386.toNat
def k0_dev44 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_333 : BitVec 32 := 13#32
  let v394 : BitVec 32 := Scalar.addi v2 c13_i32_333
  let c32_i32_334 : BitVec 32 := 32#32
  let v395 : BitVec 32 := Scalar.remsi v394 c32_i32_334
  let c1_i32_339 : BitVec 32 := 1#32
  let v397 : BitVec 32 := Scalar.muli v395 c1_i32_339
  let v398 : BitVec 32 := Scalar.addi c0_i32_340 v397
  v398.toNat
def k0_dev45 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_344 : BitVec 32 := 14#32
  let v406 : BitVec 32 := Scalar.addi v2 c14_i32_344
  let c32_i32_345 : BitVec 32 := 32#32
  let v407 : BitVec 32 := Scalar.remsi v406 c32_i32_345
  let c1_i32_350 : BitVec 32 := 1#32
  let v409 : BitVec 32 := Scalar.muli v407 c1_i32_350
  let v410 : BitVec 32 := Scalar.addi c0_i32_351 v409
  v410.toNat
def k0_dev46 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_355 : BitVec 32 := 15#32
  let v418 : BitVec 32 := Scalar.addi v2 c15_i32_355
  let c32_i32_356 : BitVec 32 := 32#32
  let v419 : BitVec 32 := Scalar.remsi v418 c32_i32_356
  let c1_i32_361 : BitVec 32 := 1#32
  let v421 : BitVec 32 := Scalar.muli v419 c1_i32_361
  let v422 : BitVec 32 := Scalar.addi c0_i32_362 v421
  v422.toNat
def k0_dev47 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_366 : BitVec 32 := 16#32
  let v430 : BitVec 32 := Scalar.addi v2 c16_i32_366
  let c32_i32_367 : BitVec 32 := 32#32
  let v431 : BitVec 32 := Scalar.remsi v430 c32_i32_367
  let c1_i32_372 : BitVec 32 := 1#32
  let v433 : BitVec 32 := Scalar.muli v431 c1_i32_372
  let v434 : BitVec 32 := Scalar.addi c0_i32_373 v433
  v434.toNat
def k0_dev48 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_377 : BitVec 32 := 17#32
  let v442 : BitVec 32 := Scalar.addi v2 c17_i32_377
  let c32_i32_378 : BitVec 32 := 32#32
  let v443 : BitVec 32 := Scalar.remsi v442 c32_i32_378
  let c1_i32_383 : BitVec 32 := 1#32
  let v445 : BitVec 32 := Scalar.muli v443 c1_i32_383
  let v446 : BitVec 32 := Scalar.addi c0_i32_384 v445
  v446.toNat
def k0_dev49 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_388 : BitVec 32 := 18#32
  let v454 : BitVec 32 := Scalar.addi v2 c18_i32_388
  let c32_i32_389 : BitVec 32 := 32#32
  let v455 : BitVec 32 := Scalar.remsi v454 c32_i32_389
  let c1_i32_394 : BitVec 32 := 1#32
  let v457 : BitVec 32 := Scalar.muli v455 c1_i32_394
  let v458 : BitVec 32 := Scalar.addi c0_i32_395 v457
  v458.toNat
def k0_dev50 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_399 : BitVec 32 := 19#32
  let v466 : BitVec 32 := Scalar.addi v2 c19_i32_399
  let c32_i32_400 : BitVec 32 := 32#32
  let v467 : BitVec 32 := Scalar.remsi v466 c32_i32_400
  let c1_i32_405 : BitVec 32 := 1#32
  let v469 : BitVec 32 := Scalar.muli v467 c1_i32_405
  let v470 : BitVec 32 := Scalar.addi c0_i32_406 v469
  v470.toNat
def k0_dev51 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_410 : BitVec 32 := 20#32
  let v478 : BitVec 32 := Scalar.addi v2 c20_i32_410
  let c32_i32_411 : BitVec 32 := 32#32
  let v479 : BitVec 32 := Scalar.remsi v478 c32_i32_411
  let c1_i32_416 : BitVec 32 := 1#32
  let v481 : BitVec 32 := Scalar.muli v479 c1_i32_416
  let v482 : BitVec 32 := Scalar.addi c0_i32_417 v481
  v482.toNat
def k0_dev52 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_421 : BitVec 32 := 21#32
  let v490 : BitVec 32 := Scalar.addi v2 c21_i32_421
  let c32_i32_422 : BitVec 32 := 32#32
  let v491 : BitVec 32 := Scalar.remsi v490 c32_i32_422
  let c1_i32_427 : BitVec 32 := 1#32
  let v493 : BitVec 32 := Scalar.muli v491 c1_i32_427
  let v494 : BitVec 32 := Scalar.addi c0_i32_428 v493
  v494.toNat
def k0_dev53 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_432 : BitVec 32 := 22#32
  let v502 : BitVec 32 := Scalar.addi v2 c22_i32_432
  let c32_i32_433 : BitVec 32 := 32#32
  let v503 : BitVec 32 := Scalar.remsi v502 c32_i32_433
  let c1_i32_438 : BitVec 32 := 1#32
  let v505 : BitVec 32 := Scalar.muli v503 c1_i32_438
  let v506 : BitVec 32 := Scalar.addi c0_i32_439 v505
  v506.toNat
def k0_dev54 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_443 : BitVec 32 := 23#32
  let v514 : BitVec 32 := Scalar.addi v2 c23_i32_443
  let c32_i32_444 : BitVec 32 := 32#32
  let v515 : BitVec 32 := Scalar.remsi v514 c32_i32_444
  let c1_i32_449 : BitVec 32 := 1#32
  let v517 : BitVec 32 := Scalar.muli v515 c1_i32_449
  let v518 : BitVec 32 := Scalar.addi c0_i32_450 v517
  v518.toNat
def k0_dev55 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_454 : BitVec 32 := 24#32
  let v526 : BitVec 32 := Scalar.addi v2 c24_i32_454
  let c32_i32_455 : BitVec 32 := 32#32
  let v527 : BitVec 32 := Scalar.remsi v526 c32_i32_455
  let c1_i32_460 : BitVec 32 := 1#32
  let v529 : BitVec 32 := Scalar.muli v527 c1_i32_460
  let v530 : BitVec 32 := Scalar.addi c0_i32_461 v529
  v530.toNat
def k0_dev56 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_465 : BitVec 32 := 25#32
  let v538 : BitVec 32 := Scalar.addi v2 c25_i32_465
  let c32_i32_466 : BitVec 32 := 32#32
  let v539 : BitVec 32 := Scalar.remsi v538 c32_i32_466
  let c1_i32_471 : BitVec 32 := 1#32
  let v541 : BitVec 32 := Scalar.muli v539 c1_i32_471
  let v542 : BitVec 32 := Scalar.addi c0_i32_472 v541
  v542.toNat
def k0_dev57 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_476 : BitVec 32 := 26#32
  let v550 : BitVec 32 := Scalar.addi v2 c26_i32_476
  let c32_i32_477 : BitVec 32 := 32#32
  let v551 : BitVec 32 := Scalar.remsi v550 c32_i32_477
  let c1_i32_482 : BitVec 32 := 1#32
  let v553 : BitVec 32 := Scalar.muli v551 c1_i32_482
  let v554 : BitVec 32 := Scalar.addi c0_i32_483 v553
  v554.toNat
def k0_dev58 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_487 : BitVec 32 := 27#32
  let v562 : BitVec 32 := Scalar.addi v2 c27_i32_487
  let c32_i32_488 : BitVec 32 := 32#32
  let v563 : BitVec 32 := Scalar.remsi v562 c32_i32_488
  let c1_i32_493 : BitVec 32 := 1#32
  let v565 : BitVec 32 := Scalar.muli v563 c1_i32_493
  let v566 : BitVec 32 := Scalar.addi c0_i32_494 v565
  v566.toNat
def k0_dev59 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_498 : BitVec 32 := 28#32
  let v574 : BitVec 32 := Scalar.addi v2 c28_i32_498
  let c32_i32_499 : BitVec 32 := 32#32
  let v575 : BitVec 32 := Scalar.remsi v574 c32_i32_499
  let c1_i32_504 : BitVec 32 := 1#32
  let v577 : BitVec 32 := Scalar.muli v575 c1_i32_504
  let v578 : BitVec 32 := Scalar.addi c0_i32_505 v577
  v578.toNat
def k0_dev60 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_509 : BitVec 32 := 29#32
  let v586 : BitVec 32 := Scalar.addi v2 c29_i32_509
  let c32_i32_510 : BitVec 32 := 32#32
  let v587 : BitVec 32 := Scalar.remsi v586 c32_i32_510
  let c1_i32_515 : BitVec 32 := 1#32
  let v589 : BitVec 32 := Scalar.muli v587 c1_i32_515
  let v590 : BitVec 32 := Scalar.addi c0_i32_516 v589
  v590.toNat
def k0_dev61 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_520 : BitVec 32 := 30#32
  let v598 : BitVec 32 := Scalar.addi v2 c30_i32_520
  let c32_i32_521 : BitVec 32 := 32#32
  let v599 : BitVec 32 := Scalar.remsi v598 c32_i32_521
  let c1_i32_526 : BitVec 32 := 1#32
  let v601 : BitVec 32 := Scalar.muli v599 c1_i32_526
  let v602 : BitVec 32 := Scalar.addi c0_i32_527 v601
  v602.toNat
def k0_dev62 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_531 : BitVec 32 := 31#32
  let v610 : BitVec 32 := Scalar.addi v2 c31_i32_531
  let c32_i32_532 : BitVec 32 := 32#32
  let v611 : BitVec 32 := Scalar.remsi v610 c32_i32_532
  let c1_i32_537 : BitVec 32 := 1#32
  let v613 : BitVec 32 := Scalar.muli v611 c1_i32_537
  let v614 : BitVec 32 := Scalar.addi c0_i32_538 v613
  v614.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_542 : BitVec 32 := 32#32
  let v622 : BitVec 32 := Scalar.muli v2 c32_i32_542
  let v623 : Index := Scalar.indexCast v622
  let c0_543 : Index := 0#32
  ![v623.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_799 : BitVec 32 := 32#32
  let v849 : BitVec 32 := Scalar.muli v2 c32_i32_799
  let v850 : Index := Scalar.indexCast v849
  let c0_800 : Index := 0#32
  ![v850.toNat, 0]
def k0_dev63 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1020 : BitVec 32 := 1#32
  let v1011 : BitVec 32 := Scalar.subi v2 c1_i32_1020
  let c32_i32_1021 : BitVec 32 := 32#32
  let v1012 : BitVec 32 := Scalar.addi v1011 c32_i32_1021
  let c32_i32_1022 : BitVec 32 := 32#32
  let v1013 : BitVec 32 := Scalar.remsi v1012 c32_i32_1022
  let c1_i32_1024 : BitVec 32 := 1#32
  let v1014 : BitVec 32 := Scalar.muli v1013 c1_i32_1024
  let v1015 : BitVec 32 := Scalar.addi c0_i32_1025 v1014
  v1015.toNat
def k0_dev64 (d0 : Dev nD) : Nat :=
  let c0_i32_1031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1026 : BitVec 32 := 2#32
  let v1016 : BitVec 32 := Scalar.subi v2 c2_i32_1026
  let c32_i32_1027 : BitVec 32 := 32#32
  let v1017 : BitVec 32 := Scalar.addi v1016 c32_i32_1027
  let c32_i32_1028 : BitVec 32 := 32#32
  let v1018 : BitVec 32 := Scalar.remsi v1017 c32_i32_1028
  let c1_i32_1030 : BitVec 32 := 1#32
  let v1019 : BitVec 32 := Scalar.muli v1018 c1_i32_1030
  let v1020 : BitVec 32 := Scalar.addi c0_i32_1031 v1019
  v1020.toNat
def k0_dev65 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1032 : BitVec 32 := 3#32
  let v1021 : BitVec 32 := Scalar.subi v2 c3_i32_1032
  let c32_i32_1033 : BitVec 32 := 32#32
  let v1022 : BitVec 32 := Scalar.addi v1021 c32_i32_1033
  let c32_i32_1034 : BitVec 32 := 32#32
  let v1023 : BitVec 32 := Scalar.remsi v1022 c32_i32_1034
  let c1_i32_1036 : BitVec 32 := 1#32
  let v1024 : BitVec 32 := Scalar.muli v1023 c1_i32_1036
  let v1025 : BitVec 32 := Scalar.addi c0_i32_1037 v1024
  v1025.toNat
def k0_dev66 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1038 : BitVec 32 := 4#32
  let v1026 : BitVec 32 := Scalar.subi v2 c4_i32_1038
  let c32_i32_1039 : BitVec 32 := 32#32
  let v1027 : BitVec 32 := Scalar.addi v1026 c32_i32_1039
  let c32_i32_1040 : BitVec 32 := 32#32
  let v1028 : BitVec 32 := Scalar.remsi v1027 c32_i32_1040
  let c1_i32_1042 : BitVec 32 := 1#32
  let v1029 : BitVec 32 := Scalar.muli v1028 c1_i32_1042
  let v1030 : BitVec 32 := Scalar.addi c0_i32_1043 v1029
  v1030.toNat
def k0_dev67 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1044 : BitVec 32 := 5#32
  let v1031 : BitVec 32 := Scalar.subi v2 c5_i32_1044
  let c32_i32_1045 : BitVec 32 := 32#32
  let v1032 : BitVec 32 := Scalar.addi v1031 c32_i32_1045
  let c32_i32_1046 : BitVec 32 := 32#32
  let v1033 : BitVec 32 := Scalar.remsi v1032 c32_i32_1046
  let c1_i32_1048 : BitVec 32 := 1#32
  let v1034 : BitVec 32 := Scalar.muli v1033 c1_i32_1048
  let v1035 : BitVec 32 := Scalar.addi c0_i32_1049 v1034
  v1035.toNat
def k0_dev68 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1050 : BitVec 32 := 6#32
  let v1036 : BitVec 32 := Scalar.subi v2 c6_i32_1050
  let c32_i32_1051 : BitVec 32 := 32#32
  let v1037 : BitVec 32 := Scalar.addi v1036 c32_i32_1051
  let c32_i32_1052 : BitVec 32 := 32#32
  let v1038 : BitVec 32 := Scalar.remsi v1037 c32_i32_1052
  let c1_i32_1054 : BitVec 32 := 1#32
  let v1039 : BitVec 32 := Scalar.muli v1038 c1_i32_1054
  let v1040 : BitVec 32 := Scalar.addi c0_i32_1055 v1039
  v1040.toNat
def k0_dev69 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1056 : BitVec 32 := 7#32
  let v1041 : BitVec 32 := Scalar.subi v2 c7_i32_1056
  let c32_i32_1057 : BitVec 32 := 32#32
  let v1042 : BitVec 32 := Scalar.addi v1041 c32_i32_1057
  let c32_i32_1058 : BitVec 32 := 32#32
  let v1043 : BitVec 32 := Scalar.remsi v1042 c32_i32_1058
  let c1_i32_1060 : BitVec 32 := 1#32
  let v1044 : BitVec 32 := Scalar.muli v1043 c1_i32_1060
  let v1045 : BitVec 32 := Scalar.addi c0_i32_1061 v1044
  v1045.toNat
def k0_dev70 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1062 : BitVec 32 := 8#32
  let v1046 : BitVec 32 := Scalar.subi v2 c8_i32_1062
  let c32_i32_1063 : BitVec 32 := 32#32
  let v1047 : BitVec 32 := Scalar.addi v1046 c32_i32_1063
  let c32_i32_1064 : BitVec 32 := 32#32
  let v1048 : BitVec 32 := Scalar.remsi v1047 c32_i32_1064
  let c1_i32_1066 : BitVec 32 := 1#32
  let v1049 : BitVec 32 := Scalar.muli v1048 c1_i32_1066
  let v1050 : BitVec 32 := Scalar.addi c0_i32_1067 v1049
  v1050.toNat
def k0_dev71 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1068 : BitVec 32 := 9#32
  let v1051 : BitVec 32 := Scalar.subi v2 c9_i32_1068
  let c32_i32_1069 : BitVec 32 := 32#32
  let v1052 : BitVec 32 := Scalar.addi v1051 c32_i32_1069
  let c32_i32_1070 : BitVec 32 := 32#32
  let v1053 : BitVec 32 := Scalar.remsi v1052 c32_i32_1070
  let c1_i32_1072 : BitVec 32 := 1#32
  let v1054 : BitVec 32 := Scalar.muli v1053 c1_i32_1072
  let v1055 : BitVec 32 := Scalar.addi c0_i32_1073 v1054
  v1055.toNat
def k0_dev72 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1074 : BitVec 32 := 10#32
  let v1056 : BitVec 32 := Scalar.subi v2 c10_i32_1074
  let c32_i32_1075 : BitVec 32 := 32#32
  let v1057 : BitVec 32 := Scalar.addi v1056 c32_i32_1075
  let c32_i32_1076 : BitVec 32 := 32#32
  let v1058 : BitVec 32 := Scalar.remsi v1057 c32_i32_1076
  let c1_i32_1078 : BitVec 32 := 1#32
  let v1059 : BitVec 32 := Scalar.muli v1058 c1_i32_1078
  let v1060 : BitVec 32 := Scalar.addi c0_i32_1079 v1059
  v1060.toNat
def k0_dev73 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1080 : BitVec 32 := 11#32
  let v1061 : BitVec 32 := Scalar.subi v2 c11_i32_1080
  let c32_i32_1081 : BitVec 32 := 32#32
  let v1062 : BitVec 32 := Scalar.addi v1061 c32_i32_1081
  let c32_i32_1082 : BitVec 32 := 32#32
  let v1063 : BitVec 32 := Scalar.remsi v1062 c32_i32_1082
  let c1_i32_1084 : BitVec 32 := 1#32
  let v1064 : BitVec 32 := Scalar.muli v1063 c1_i32_1084
  let v1065 : BitVec 32 := Scalar.addi c0_i32_1085 v1064
  v1065.toNat
def k0_dev74 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1086 : BitVec 32 := 12#32
  let v1066 : BitVec 32 := Scalar.subi v2 c12_i32_1086
  let c32_i32_1087 : BitVec 32 := 32#32
  let v1067 : BitVec 32 := Scalar.addi v1066 c32_i32_1087
  let c32_i32_1088 : BitVec 32 := 32#32
  let v1068 : BitVec 32 := Scalar.remsi v1067 c32_i32_1088
  let c1_i32_1090 : BitVec 32 := 1#32
  let v1069 : BitVec 32 := Scalar.muli v1068 c1_i32_1090
  let v1070 : BitVec 32 := Scalar.addi c0_i32_1091 v1069
  v1070.toNat
def k0_dev75 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1092 : BitVec 32 := 13#32
  let v1071 : BitVec 32 := Scalar.subi v2 c13_i32_1092
  let c32_i32_1093 : BitVec 32 := 32#32
  let v1072 : BitVec 32 := Scalar.addi v1071 c32_i32_1093
  let c32_i32_1094 : BitVec 32 := 32#32
  let v1073 : BitVec 32 := Scalar.remsi v1072 c32_i32_1094
  let c1_i32_1096 : BitVec 32 := 1#32
  let v1074 : BitVec 32 := Scalar.muli v1073 c1_i32_1096
  let v1075 : BitVec 32 := Scalar.addi c0_i32_1097 v1074
  v1075.toNat
def k0_dev76 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1098 : BitVec 32 := 14#32
  let v1076 : BitVec 32 := Scalar.subi v2 c14_i32_1098
  let c32_i32_1099 : BitVec 32 := 32#32
  let v1077 : BitVec 32 := Scalar.addi v1076 c32_i32_1099
  let c32_i32_1100 : BitVec 32 := 32#32
  let v1078 : BitVec 32 := Scalar.remsi v1077 c32_i32_1100
  let c1_i32_1102 : BitVec 32 := 1#32
  let v1079 : BitVec 32 := Scalar.muli v1078 c1_i32_1102
  let v1080 : BitVec 32 := Scalar.addi c0_i32_1103 v1079
  v1080.toNat
def k0_dev77 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1104 : BitVec 32 := 15#32
  let v1081 : BitVec 32 := Scalar.subi v2 c15_i32_1104
  let c32_i32_1105 : BitVec 32 := 32#32
  let v1082 : BitVec 32 := Scalar.addi v1081 c32_i32_1105
  let c32_i32_1106 : BitVec 32 := 32#32
  let v1083 : BitVec 32 := Scalar.remsi v1082 c32_i32_1106
  let c1_i32_1108 : BitVec 32 := 1#32
  let v1084 : BitVec 32 := Scalar.muli v1083 c1_i32_1108
  let v1085 : BitVec 32 := Scalar.addi c0_i32_1109 v1084
  v1085.toNat
def k0_dev78 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1110 : BitVec 32 := 16#32
  let v1086 : BitVec 32 := Scalar.subi v2 c16_i32_1110
  let c32_i32_1111 : BitVec 32 := 32#32
  let v1087 : BitVec 32 := Scalar.addi v1086 c32_i32_1111
  let c32_i32_1112 : BitVec 32 := 32#32
  let v1088 : BitVec 32 := Scalar.remsi v1087 c32_i32_1112
  let c1_i32_1114 : BitVec 32 := 1#32
  let v1089 : BitVec 32 := Scalar.muli v1088 c1_i32_1114
  let v1090 : BitVec 32 := Scalar.addi c0_i32_1115 v1089
  v1090.toNat
def k0_dev79 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1116 : BitVec 32 := 17#32
  let v1091 : BitVec 32 := Scalar.subi v2 c17_i32_1116
  let c32_i32_1117 : BitVec 32 := 32#32
  let v1092 : BitVec 32 := Scalar.addi v1091 c32_i32_1117
  let c32_i32_1118 : BitVec 32 := 32#32
  let v1093 : BitVec 32 := Scalar.remsi v1092 c32_i32_1118
  let c1_i32_1120 : BitVec 32 := 1#32
  let v1094 : BitVec 32 := Scalar.muli v1093 c1_i32_1120
  let v1095 : BitVec 32 := Scalar.addi c0_i32_1121 v1094
  v1095.toNat
def k0_dev80 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1122 : BitVec 32 := 18#32
  let v1096 : BitVec 32 := Scalar.subi v2 c18_i32_1122
  let c32_i32_1123 : BitVec 32 := 32#32
  let v1097 : BitVec 32 := Scalar.addi v1096 c32_i32_1123
  let c32_i32_1124 : BitVec 32 := 32#32
  let v1098 : BitVec 32 := Scalar.remsi v1097 c32_i32_1124
  let c1_i32_1126 : BitVec 32 := 1#32
  let v1099 : BitVec 32 := Scalar.muli v1098 c1_i32_1126
  let v1100 : BitVec 32 := Scalar.addi c0_i32_1127 v1099
  v1100.toNat
def k0_dev81 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1128 : BitVec 32 := 19#32
  let v1101 : BitVec 32 := Scalar.subi v2 c19_i32_1128
  let c32_i32_1129 : BitVec 32 := 32#32
  let v1102 : BitVec 32 := Scalar.addi v1101 c32_i32_1129
  let c32_i32_1130 : BitVec 32 := 32#32
  let v1103 : BitVec 32 := Scalar.remsi v1102 c32_i32_1130
  let c1_i32_1132 : BitVec 32 := 1#32
  let v1104 : BitVec 32 := Scalar.muli v1103 c1_i32_1132
  let v1105 : BitVec 32 := Scalar.addi c0_i32_1133 v1104
  v1105.toNat
def k0_dev82 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1134 : BitVec 32 := 20#32
  let v1106 : BitVec 32 := Scalar.subi v2 c20_i32_1134
  let c32_i32_1135 : BitVec 32 := 32#32
  let v1107 : BitVec 32 := Scalar.addi v1106 c32_i32_1135
  let c32_i32_1136 : BitVec 32 := 32#32
  let v1108 : BitVec 32 := Scalar.remsi v1107 c32_i32_1136
  let c1_i32_1138 : BitVec 32 := 1#32
  let v1109 : BitVec 32 := Scalar.muli v1108 c1_i32_1138
  let v1110 : BitVec 32 := Scalar.addi c0_i32_1139 v1109
  v1110.toNat
def k0_dev83 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1140 : BitVec 32 := 21#32
  let v1111 : BitVec 32 := Scalar.subi v2 c21_i32_1140
  let c32_i32_1141 : BitVec 32 := 32#32
  let v1112 : BitVec 32 := Scalar.addi v1111 c32_i32_1141
  let c32_i32_1142 : BitVec 32 := 32#32
  let v1113 : BitVec 32 := Scalar.remsi v1112 c32_i32_1142
  let c1_i32_1144 : BitVec 32 := 1#32
  let v1114 : BitVec 32 := Scalar.muli v1113 c1_i32_1144
  let v1115 : BitVec 32 := Scalar.addi c0_i32_1145 v1114
  v1115.toNat
def k0_dev84 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1146 : BitVec 32 := 22#32
  let v1116 : BitVec 32 := Scalar.subi v2 c22_i32_1146
  let c32_i32_1147 : BitVec 32 := 32#32
  let v1117 : BitVec 32 := Scalar.addi v1116 c32_i32_1147
  let c32_i32_1148 : BitVec 32 := 32#32
  let v1118 : BitVec 32 := Scalar.remsi v1117 c32_i32_1148
  let c1_i32_1150 : BitVec 32 := 1#32
  let v1119 : BitVec 32 := Scalar.muli v1118 c1_i32_1150
  let v1120 : BitVec 32 := Scalar.addi c0_i32_1151 v1119
  v1120.toNat
def k0_dev85 (d0 : Dev nD) : Nat :=
  let c0_i32_1157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1152 : BitVec 32 := 23#32
  let v1121 : BitVec 32 := Scalar.subi v2 c23_i32_1152
  let c32_i32_1153 : BitVec 32 := 32#32
  let v1122 : BitVec 32 := Scalar.addi v1121 c32_i32_1153
  let c32_i32_1154 : BitVec 32 := 32#32
  let v1123 : BitVec 32 := Scalar.remsi v1122 c32_i32_1154
  let c1_i32_1156 : BitVec 32 := 1#32
  let v1124 : BitVec 32 := Scalar.muli v1123 c1_i32_1156
  let v1125 : BitVec 32 := Scalar.addi c0_i32_1157 v1124
  v1125.toNat
def k0_dev86 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1158 : BitVec 32 := 24#32
  let v1126 : BitVec 32 := Scalar.subi v2 c24_i32_1158
  let c32_i32_1159 : BitVec 32 := 32#32
  let v1127 : BitVec 32 := Scalar.addi v1126 c32_i32_1159
  let c32_i32_1160 : BitVec 32 := 32#32
  let v1128 : BitVec 32 := Scalar.remsi v1127 c32_i32_1160
  let c1_i32_1162 : BitVec 32 := 1#32
  let v1129 : BitVec 32 := Scalar.muli v1128 c1_i32_1162
  let v1130 : BitVec 32 := Scalar.addi c0_i32_1163 v1129
  v1130.toNat
def k0_dev87 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1164 : BitVec 32 := 25#32
  let v1131 : BitVec 32 := Scalar.subi v2 c25_i32_1164
  let c32_i32_1165 : BitVec 32 := 32#32
  let v1132 : BitVec 32 := Scalar.addi v1131 c32_i32_1165
  let c32_i32_1166 : BitVec 32 := 32#32
  let v1133 : BitVec 32 := Scalar.remsi v1132 c32_i32_1166
  let c1_i32_1168 : BitVec 32 := 1#32
  let v1134 : BitVec 32 := Scalar.muli v1133 c1_i32_1168
  let v1135 : BitVec 32 := Scalar.addi c0_i32_1169 v1134
  v1135.toNat
def k0_dev88 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1170 : BitVec 32 := 26#32
  let v1136 : BitVec 32 := Scalar.subi v2 c26_i32_1170
  let c32_i32_1171 : BitVec 32 := 32#32
  let v1137 : BitVec 32 := Scalar.addi v1136 c32_i32_1171
  let c32_i32_1172 : BitVec 32 := 32#32
  let v1138 : BitVec 32 := Scalar.remsi v1137 c32_i32_1172
  let c1_i32_1174 : BitVec 32 := 1#32
  let v1139 : BitVec 32 := Scalar.muli v1138 c1_i32_1174
  let v1140 : BitVec 32 := Scalar.addi c0_i32_1175 v1139
  v1140.toNat
def k0_dev89 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1176 : BitVec 32 := 27#32
  let v1141 : BitVec 32 := Scalar.subi v2 c27_i32_1176
  let c32_i32_1177 : BitVec 32 := 32#32
  let v1142 : BitVec 32 := Scalar.addi v1141 c32_i32_1177
  let c32_i32_1178 : BitVec 32 := 32#32
  let v1143 : BitVec 32 := Scalar.remsi v1142 c32_i32_1178
  let c1_i32_1180 : BitVec 32 := 1#32
  let v1144 : BitVec 32 := Scalar.muli v1143 c1_i32_1180
  let v1145 : BitVec 32 := Scalar.addi c0_i32_1181 v1144
  v1145.toNat
def k0_dev90 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1182 : BitVec 32 := 28#32
  let v1146 : BitVec 32 := Scalar.subi v2 c28_i32_1182
  let c32_i32_1183 : BitVec 32 := 32#32
  let v1147 : BitVec 32 := Scalar.addi v1146 c32_i32_1183
  let c32_i32_1184 : BitVec 32 := 32#32
  let v1148 : BitVec 32 := Scalar.remsi v1147 c32_i32_1184
  let c1_i32_1186 : BitVec 32 := 1#32
  let v1149 : BitVec 32 := Scalar.muli v1148 c1_i32_1186
  let v1150 : BitVec 32 := Scalar.addi c0_i32_1187 v1149
  v1150.toNat
def k0_dev91 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1188 : BitVec 32 := 29#32
  let v1151 : BitVec 32 := Scalar.subi v2 c29_i32_1188
  let c32_i32_1189 : BitVec 32 := 32#32
  let v1152 : BitVec 32 := Scalar.addi v1151 c32_i32_1189
  let c32_i32_1190 : BitVec 32 := 32#32
  let v1153 : BitVec 32 := Scalar.remsi v1152 c32_i32_1190
  let c1_i32_1192 : BitVec 32 := 1#32
  let v1154 : BitVec 32 := Scalar.muli v1153 c1_i32_1192
  let v1155 : BitVec 32 := Scalar.addi c0_i32_1193 v1154
  v1155.toNat
def k0_dev92 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1194 : BitVec 32 := 30#32
  let v1156 : BitVec 32 := Scalar.subi v2 c30_i32_1194
  let c32_i32_1195 : BitVec 32 := 32#32
  let v1157 : BitVec 32 := Scalar.addi v1156 c32_i32_1195
  let c32_i32_1196 : BitVec 32 := 32#32
  let v1158 : BitVec 32 := Scalar.remsi v1157 c32_i32_1196
  let c1_i32_1198 : BitVec 32 := 1#32
  let v1159 : BitVec 32 := Scalar.muli v1158 c1_i32_1198
  let v1160 : BitVec 32 := Scalar.addi c0_i32_1199 v1159
  v1160.toNat
def k0_dev93 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1200 : BitVec 32 := 31#32
  let v1161 : BitVec 32 := Scalar.subi v2 c31_i32_1200
  let c32_i32_1201 : BitVec 32 := 32#32
  let v1162 : BitVec 32 := Scalar.addi v1161 c32_i32_1201
  let c32_i32_1202 : BitVec 32 := 32#32
  let v1163 : BitVec 32 := Scalar.remsi v1162 c32_i32_1202
  let c1_i32_1204 : BitVec 32 := 1#32
  let v1164 : BitVec 32 := Scalar.muli v1163 c1_i32_1204
  let v1165 : BitVec 32 := Scalar.addi c0_i32_1205 v1164
  v1165.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩
abbrev S1024x1024 : Shape := ⟨2, ![1024, 1024]⟩
abbrev S1024x2 : Shape := ⟨2, ![1024, 2]⟩
abbrev S1024x512x1024 : Shape := ⟨3, ![1024, 512, 1024]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S128x512x1024, .f32⟩
  | .hbm, ⟨4, _⟩ => ⟨S512x1024, .f32⟩
  | .hbm, ⟨5, _⟩ => ⟨S1024x128, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x128, .f32⟩
  | .hbm, ⟨16, _⟩ => ⟨S1024x128, .f32⟩
  | .hbm, ⟨17, _⟩ => ⟨S1024x1024, .f32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024, .i1⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1024x1, .i32⟩
  | .hbm, ⟨46, _⟩ => ⟨S1024x2, .i32⟩
  | .hbm, ⟨47, _⟩ => ⟨S1024, .f32⟩
  | .hbm, ⟨48, _⟩ => ⟨S_, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1024x512x1024, .f32⟩
  | .hbm, ⟨61, _⟩ => ⟨S1024x1024, .f32⟩
  | .hbm, ⟨62, _⟩ => ⟨S1024x1, .f32⟩
  | .hbm, ⟨63, _⟩ => ⟨S1024x1024, .f32⟩
  | .hbm, ⟨64, _⟩ => ⟨S1024x1024, .f32⟩
  | .hbm, ⟨65, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.KernelIdeal.Folded.lean ====
/-
# The body, folded

The kernel's body is straight-line text: thirty-one entry signals and one wait for them, the compute, thirty-one
copies, thirty-one waits for what arrives, the sum, thirty-one waits for what left, thirty-one closing signals and
the wait for those. Here the same program is written with each run of thirty-one statements as one pass over the
list of shifts, each statement stated once at a symbolic shift.
-/
module

public import proofs.«01_k».proof.Proof.Gen.KernelIdeal
public import proofs.«01_k».proof.Proof.Gen.KernelIdeal.Skeleton

@[expose] public section

noncomputable section

namespace Cert.KernelIdeal.Moe

open Cert.KernelIdeal Cert.KernelIdeal.Gen
open Idealize.ShloMosaic Idealize.ShloMosaic.TcCoe
open Idealize.SL.Sem

variable {F : FTy → Type} [FloatOps F]

/-- The kernel's programs. -/
abbrev TcProg (F : FTy → Type) (α : Type) : Type _ := Prog (TpuEff nD τ sig (Elt F) Λ₀ .tc) α

/-- The shifts of the exchange, in the order the body goes through them: entry `k` is the shift by `k + 1`. -/
abbrev shifts : List (Fin 31) :=
  [0, 1, 2, 3, 4, 5, 6, 7, 8, 9, 10, 11, 12, 13, 14, 15, 16, 17, 18, 19, 20, 21, 22, 23, 24, 25, 26, 27, 28, 29, 30]

/-- Every shift is in the list. -/
theorem mem_shifts : ∀ k : Fin 31, k ∈ shifts := by decide
/-- No shift is in it twice. -/
theorem nodup_shifts : shifts.Nodup := by decide

/-- One statement per entry of a list, then the rest of the program. -/
def pass {α : Type} (f : Fin 31 → TcProg F PUnit) : List (Fin 31) → TcProg F α → TcProg F α
  | [], rest => rest
  | k :: l, rest => f k >>= fun _ => pass f l rest

/-- The device `k + 1` places before `c` on the ring: whom `c` signals at shift `k`, and who sends to `c` there. -/
def before (c : Dev nD) (k : Fin 31) : Dev nD := ⟨(c.val + (31 - k.val)) % 32, Nat.mod_lt _ (by decide)⟩
/-- The device `k + 1` places after `c`: whom `c` sends to at shift `k`. -/
def past (c : Dev nD) (k : Fin 31) : Dev nD := ⟨(c.val + (k.val + 1)) % 32, Nat.mod_lt _ (by decide)⟩

/-- The word `device_id` computes the shifts from. -/
def idWord (c : Dev nD) : BitVec 32 := Scalar.remsi (Scalar.divsi (Dev.word c) 1#32) 32#32

/-- Slot `k + 1` of the receive buffer lies in it. -/
theorem slot_inb : ∀ (k : Fin 31), ∀ a, (![k.val + 1, 0, 0] : Fin 3 → Nat) a + S1x32x1024.size a ≤ S32x32x1024.size a := by
  decide
/-- Slot `k + 1` is made of whole words. -/
theorem slot_words : ∀ (k : Fin 31),
    (Rect.unit (s := S32x32x1024) ![k.val + 1, 0, 0] S1x32x1024.size (slot_inb k)).WholeWords (EltTy.packing .bf16) := by
  decide
/-- Entry `k + 1` of a semaphore array lies in it. -/
theorem sem_inb : ∀ (k : Fin 31), ∀ a, (![k.val + 1] : Fin 1 → Nat) a + S1.size a ≤ S32.size a := by decide

/-- The semaphore of an array that serves shift `k`. -/
def semAt (a : DmaSems sig S32) (k : Fin 31) : DmaSem sig :=
  ((a.slice (Rect.unit (s := S32) ![k.val + 1] S1.size (sem_inb k))).squeeze S_ squeezes_S1_S_).sem

/-- The thirty-two rows of the partial result that device `d0` sends at shift `k`. -/
def rowsAt (a6 : Memref sig .tc .vmem S1024x1024 .bf16) (d0 : Dev nD) (k : Fin 31) : Memref sig .tc .vmem S32x1024 .bf16 :=
  a6.slice (Rect.unit (s := S1024x1024) (k0_off1 d0 (BitVec.ofNat 32 (1 + k.val))) S32x1024.size (k0_off1_inb d0 k)) (fun _ => rfl)

/-- The slot of the receive buffer that shift `k` lands in. -/
def slotAt (a7 : Memref sig .tc .vmem S32x32x1024 .bf16) (k : Fin 31) : Memref sig .tc .vmem S32x1024 .bf16 :=
  (a7.slice (Rect.unit (s := S32x32x1024) ![k.val + 1, 0, 0] S1x32x1024.size (slot_inb k)) (fun _ => rfl)).squeeze
    S32x1024 squeezes_S1x32x1024_S32x1024

section Statements

variable (arg6 : Memref sig .tc .vmem S1024x1024 .bf16) (harg6 : arg6.IsWhole)
  (arg7 : Memref sig .tc .vmem S32x32x1024 .bf16) (harg7 : arg7.IsWhole) (arg8 arg9 : DmaSems sig S32)
  (sem : Sem sig) (d0 : Dev nD) (k : Fin 31)

/-- A signal of one to the device before, on a semaphore (the entry barrier's, or the closing one). -/
def signalAt : TcProg F PUnit := semSignalWord (before d0 k) sem 1#32

include harg6 harg7 in
/-- The copy of shift `k`. -/
def copyAt : TcProg F PUnit :=
  Prog.lift (.enqueueDma (rowsAt arg6 d0 k)
    (.remote (Dev.tc (past d0 k)) (slotAt arg7 k) (.dma (semAt arg8 k))) (.dma (semAt arg9 k))
    (harg6.wordExact_slice rfl _ (k0_off1_wordsbf16 d0 k)) ((harg7.wordExact_slice rfl _ (slot_words k)).reshape _ _)
    ⟨⟨rfl, Or.inl rfl⟩, trivial⟩)

include harg6 harg7 in
/-- The wait for what shift `k` brings. -/
def arriveAt : TcProg F PUnit :=
  Prog.lift (.waitDma2 (semAt arg9 k) (rowsAt arg6 d0 k) (slotAt arg7 k)
    (harg6.wordExact_slice rfl _ (k0_off1_wordsbf16 d0 k)) ((harg7.wordExact_slice rfl _ (slot_words k)).reshape _ _))

include harg6 harg7 in
/-- The wait for the copy of shift `k` to have left. -/
def leaveAt : TcProg F PUnit :=
  Prog.lift (.waitDma2 (semAt arg8 k) (slotAt arg7 k) (rowsAt arg6 d0 k)
    ((harg7.wordExact_slice rfl _ (slot_words k)).reshape _ _) (harg6.wordExact_slice rfl _ (k0_off1_wordsbf16 d0 k)))

end Statements

/-- What a device adds up for every row: the four experts it holds, each where the row is routed to it. -/
def partialOf (d0 : Dev nD) (x : Vec F S1024x512 .f32) (rw : Vec F S512x128 .f32) (ix : Vec F S1024x1 .i32)
    (e0 e1 e2 e3 : Vec F S1x512x1024 .f32) : FVec F S1024x1024 .bf16 :=
  k0_pay7 (idWord d0) (k0_pay1 ix) (k0_pay2 x rw ix)
    (k0_pay4 (idWord d0) (k0_pay1 ix) (k0_pay2 x rw ix) (k0_pay3 (F := F)) (Scalar.muli (idWord d0) 4#32) 0#32 x e0 x e1)
    (k0_pay5 (idWord d0) (k0_pay1 ix) (k0_pay2 x rw ix)) (k0_pay6 x) e2 x e3

/-- Two programs that start with the same operation and go on alike are the same. -/
theorem op_congr {α X : Type} {e e' : TpuEff nD τ sig (Elt F) Λ₀ .tc X} {k k' : X → TcProg F α}
    (h : e = e') (hk : ∀ x, k x = k' x) : Prog.op e k = Prog.op e' k' := by
  rw [h, funext hk]

/-- A copy addressed to a device is the copy addressed to the same device, however its number was computed. -/
theorem copy_dev (arg6 : Memref sig .tc .vmem S1024x1024 .bf16) (harg6 : arg6.IsWhole)
    (arg7 : Memref sig .tc .vmem S32x32x1024 .bf16) (harg7 : arg7.IsWhole) (arg8 arg9 : DmaSems sig S32)
    (d0 : Dev nD) (k : Fin 31) {d : Dev nD} (h : d.val = (past d0 k).val) :
    (.enqueueDma (rowsAt arg6 d0 k)
      (.remote (Dev.tc (past d0 k)) (slotAt arg7 k) (.dma (semAt arg8 k))) (.dma (semAt arg9 k))
      (harg6.wordExact_slice rfl _ (k0_off1_wordsbf16 d0 k)) ((harg7.wordExact_slice rfl _ (slot_words k)).reshape _ _)
      ⟨⟨rfl, Or.inl rfl⟩, trivial⟩ : TpuEff nD τ sig (Elt F) Λ₀ .tc _)
    = .enqueueDma (rowsAt arg6 d0 k)
      (.remote (Dev.tc d) (slotAt arg7 k) (.dma (semAt arg8 k))) (.dma (semAt arg9 k))
      (harg6.wordExact_slice rfl _ (k0_off1_wordsbf16 d0 k)) ((harg7.wordExact_slice rfl _ (slot_words k)).reshape _ _)
      ⟨⟨rfl, Or.inl rfl⟩, trivial⟩ := by
  obtain rfl : d = past d0 k := Fin.ext h
  rfl

section Body

variable (arg0 : Memref sig .tc .vmem S1024x512 .f32) (harg0 : arg0.IsWhole)
  (arg1 : Memref sig .tc .vmem S512x128 .f32) (harg1 : arg1.IsWhole)
  (arg2 : Memref sig .tc .vmem S1024x1 .i32) (harg2 : arg2.IsWhole)
  (arg3 : Memref sig .tc .vmem S4x512x1024 .f32) (harg3 : arg3.IsWhole)
  (arg4 : Memref sig .tc .vmem S512x1024 .f32) (harg4 : arg4.IsWhole)
  (arg5 : Memref sig .tc .vmem S32x1024 .f32) (harg5 : arg5.IsWhole)
  (arg6 : Memref sig .tc .vmem S1024x1024 .bf16) (harg6 : arg6.IsWhole)
  (arg7 : Memref sig .tc .vmem S32x32x1024 .bf16) (harg7 : arg7.IsWhole)
  (arg8 arg9 : DmaSems sig S32) (arg10 : Sems sig S_)

/-- The body after `device_id`: the passes, and the compute between them. -/
def folded (d0 : Dev nD) : TcProg F PUnit :=
  pass (signalAt barrier0 d0) shifts do
  semWaitWord barrier0 31#32
  let x : Vec F S1024x512 .f32 ← Prog.lift (.load arg0 (Rect.unit (s := S1024x512) ![0, 0] S1024x512.size inb_S1024x512_S1024x512_0_0).toLoadRect (View.loadsAt_vmem h_S1024x512))
  let rw : Vec F S512x128 .f32 ← Prog.lift (.load arg1 (Rect.unit (s := S512x128) ![0, 0] S512x128.size inb_S512x128_S512x128_0_0).toLoadRect (View.loadsAt_vmem h_S512x128))
  let ix : Vec F S1024x1 .i32 ← Prog.lift (.load arg2 (Rect.unit (s := S1024x1) ![0, 0] S1024x1.size inb_S1024x1_S1024x1_0_0).toLoadRect (View.loadsAt_vmem h_S1024x1))
  let x0 : Vec F S1024x512 .f32 ← Prog.lift (.load arg0 (Rect.unit (s := S1024x512) ![0, 0] S1024x512.size inb_S1024x512_S1024x512_0_0).toLoadRect (View.loadsAt_vmem h_S1024x512))
  let e0 : Vec F S1x512x1024 .f32 ← Prog.lift (.load arg3 (Rect.unit (s := S4x512x1024) ![0, 0, 0] S1x512x1024.size inb_S4x512x1024_S1x512x1024_0_0_0).toLoadRect (View.loadsAt_vmem h_S1x512x1024))
  let x1 : Vec F S1024x512 .f32 ← Prog.lift (.load arg0 (Rect.unit (s := S1024x512) ![0, 0] S1024x512.size inb_S1024x512_S1024x512_0_0).toLoadRect (View.loadsAt_vmem h_S1024x512))
  let e1 : Vec F S1x512x1024 .f32 ← Prog.lift (.load arg3 (Rect.unit (s := S4x512x1024) ![1, 0, 0] S1x512x1024.size inb_S4x512x1024_S1x512x1024_1_0_0).toLoadRect (View.loadsAt_vmem h_S1x512x1024))
  let x2 : Vec F S1024x512 .f32 ← Prog.lift (.load arg0 (Rect.unit (s := S1024x512) ![0, 0] S1024x512.size inb_S1024x512_S1024x512_0_0).toLoadRect (View.loadsAt_vmem h_S1024x512))
  let e2 : Vec F S1x512x1024 .f32 ← Prog.lift (.load arg3 (Rect.unit (s := S4x512x1024) ![2, 0, 0] S1x512x1024.size inb_S4x512x1024_S1x512x1024_2_0_0).toLoadRect (View.loadsAt_vmem h_S1x512x1024))
  let x3 : Vec F S1024x512 .f32 ← Prog.lift (.load arg0 (Rect.unit (s := S1024x512) ![0, 0] S1024x512.size inb_S1024x512_S1024x512_0_0).toLoadRect (View.loadsAt_vmem h_S1024x512))
  let e3 : Vec F S1x512x1024 .f32 ← Prog.lift (.load arg3 (Rect.unit (s := S4x512x1024) ![3, 0, 0] S1x512x1024.size inb_S4x512x1024_S1x512x1024_3_0_0).toLoadRect (View.loadsAt_vmem h_S1x512x1024))
  let _ : Vec F S1024x1024 .bf16 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0)
    (k0_pay7 (idWord d0) (k0_pay1 ix) (k0_pay2 x rw ix)
      (k0_pay4 (idWord d0) (k0_pay1 ix) (k0_pay2 x rw ix) (k0_pay3 (F := F)) (Scalar.muli (idWord d0) 4#32) 0#32 x0 e0 x1 e1)
      (k0_pay5 (idWord d0) (k0_pay1 ix) (k0_pay2 x rw ix)) (k0_pay6 x2) e2 x3 e3)
    Finset.univ (View.stores_vmem h_S1024x1024 (harg6.storeExact_slice rfl _ packedbf16_S1024x1024_S1024x1024_0_0) (fun _ => rfl)) (.inl rfl))
  pass (copyAt arg6 harg6 arg7 harg7 arg8 arg9 d0) shifts do
  let xo : Vec F S32x512 .f32 ← Prog.lift (.load arg0 (Rect.unit (s := S1024x512) (k0_off2 d0) S32x512.size (k0_off2_inb d0)).toLoadRect (View.loadsAt_vmem h_S32x512))
  let sw : Vec F S512x1024 .f32 ← Prog.lift (.load arg4 (Rect.unit (s := S512x1024) ![0, 0] S512x1024.size inb_S512x1024_S512x1024_0_0).toLoadRect (View.loadsAt_vmem h_S512x1024))
  pass (arriveAt arg6 harg6 arg7 harg7 arg9 d0) shifts do
  let got : Vec F S31x32x1024 .bf16 ← Prog.lift (.load arg7 (Rect.unit (s := S32x32x1024) ![1, 0, 0] S31x32x1024.size inb_S32x32x1024_S31x32x1024_1_0_0).toLoadRect (View.loadsAt_vmem h_S31x32x1024))
  let own : Vec F S32x1024 .bf16 ← Prog.lift (.load arg6 (Rect.unit (s := S1024x1024) (k0_off3 d0) S32x1024.size (k0_off3_inb d0)).toLoadRect (View.loadsAt_vmem h_S32x1024))
  let _ : Vec F S32x1024 .f32 ← Prog.lift (.load arg5 (Rect.unit (s := S32x1024) ![0, 0] S32x1024.size inb_S32x1024_S32x1024_0_0).toLoadRect (View.loadsAt_vmem h_S32x1024))
  Prog.lift (.store arg5 (Rect.unit (s := S32x1024) ![0, 0] S32x1024.size inb_S32x1024_S32x1024_0_0) (k0_pay9 (k0_pay8 xo sw) got own) Finset.univ (View.stores_vmem_bits_univ h_S32x1024 rfl) (.inl rfl))
  pass (leaveAt arg6 harg6 arg7 harg7 arg8 d0) shifts do
  pass (signalAt arg10.sem d0) shifts do
  semWaitWord arg10.sem 31#32

set_option maxRecDepth 100000 in
set_option maxHeartbeats 800000 in
/-- The printed body is `device_id` and then the folded program. -/
theorem body_eq :
    cc0_body (F := F) arg0 harg0 arg1 harg1 arg2 harg2 arg3 harg3 arg4 harg4 arg5 harg5 arg6 harg6 arg7 harg7 arg8 arg9 arg10
      = (.op .deviceId fun d0 => folded arg0 arg1 arg2 arg3 arg4 arg5 arg6 harg6 arg7 harg7 arg8 arg9 arg10 d0) := by
  simp only [folded, pass, signalAt, copyAt, arriveAt, leaveAt, cc0_body_eq_skeleton, cc0_body_skel, k0_part1_eq_skeleton, k0_part1_skel, k0_part2_eq_skeleton,
    k0_part2_skel, k0_part3_eq_skeleton, k0_part3_skel, k0_part4_eq_skeleton, k0_part4_skel, k0_part5_eq_skeleton,
    k0_part5_skel, k0_part6_eq_skeleton, k0_part6_skel, k0_part7_eq_skeleton, k0_part7_skel, k0_part8_eq_skeleton,
    k0_part8_skel, k0_part9_eq_skeleton, k0_part9_skel, k0_part10_eq_skeleton, k0_part10_skel,
    k0_part11_eq_skeleton, k0_part11_skel, k0_part12_eq_skeleton, k0_part12_skel, k0_part13_eq_skeleton,
    k0_part13_skel, k0_part14_eq_skeleton, k0_part14_skel, k0_part15_eq_skeleton, k0_part15_skel,
    k0_part16_eq_skeleton, k0_part16_skel, k0_part17_eq_skeleton, k0_part17_skel, k0_part18_eq_skeleton,
    k0_part18_skel, k0_part19_eq_skeleton, k0_part19_skel, k0_part20_eq_skeleton, k0_part20_skel,
    k0_part21_eq_skeleton, k0_part21_skel, k0_part22_eq_skeleton, k0_part22_skel, k0_part23_eq_skeleton,
    k0_part23_skel, k0_part24_eq_skeleton, k0_part24_skel, k0_part25_eq_skeleton, k0_part25_skel,
    k0_part26_eq_skeleton, k0_part26_skel, k0_part27_eq_skeleton, k0_part27_skel, k0_part28_eq_skeleton,
    k0_part28_skel, k0_part29_eq_skeleton, k0_part29_skel, k0_part30_eq_skeleton, k0_part30_skel,
    k0_part31_eq_skeleton, k0_part31_skel, k0_part32_eq_skeleton, k0_part32_skel, k0_part33_eq_skeleton,
    k0_part33_skel, k0_part34_eq_skeleton, k0_part34_skel, k0_part35_eq_skeleton, k0_part35_skel,
    k0_part36_eq_skeleton, k0_part36_skel, k0_part37_eq_skeleton, k0_part37_skel, k0_part38_eq_skeleton,
    k0_part38_skel, k0_part39_eq_skeleton, k0_part39_skel, k0_part40_eq_skeleton, k0_part40_skel,
    k0_part41_eq_skeleton, k0_part41_skel, k0_part42_eq_skeleton, k0_part42_skel, k0_part43_eq_skeleton,
    k0_part43_skel, Prog.lift, Prog.bind_op, Prog.bind_ret, Prog.pure_eq_ret, semSignalWord, semWaitWord,
    k0_dev1_eq, k0_dev2_eq, k0_dev3_eq, k0_dev4_eq, k0_dev5_eq, k0_dev6_eq, k0_dev7_eq, k0_dev8_eq, k0_dev9_eq,
    k0_dev10_eq, k0_dev11_eq, k0_dev12_eq, k0_dev13_eq, k0_dev14_eq, k0_dev15_eq, k0_dev16_eq, k0_dev17_eq,
    k0_dev18_eq, k0_dev19_eq, k0_dev20_eq, k0_dev21_eq, k0_dev22_eq, k0_dev23_eq, k0_dev24_eq, k0_dev25_eq,
    k0_dev26_eq, k0_dev27_eq, k0_dev28_eq, k0_dev29_eq, k0_dev30_eq, k0_dev31_eq, k0_dev32_eq, k0_dev33_eq,
    k0_dev34_eq, k0_dev35_eq, k0_dev36_eq, k0_dev37_eq, k0_dev38_eq, k0_dev39_eq, k0_dev40_eq, k0_dev41_eq,
    k0_dev42_eq, k0_dev43_eq, k0_dev44_eq, k0_dev45_eq, k0_dev46_eq, k0_dev47_eq, k0_dev48_eq, k0_dev49_eq,
    k0_dev50_eq, k0_dev51_eq, k0_dev52_eq, k0_dev53_eq, k0_dev54_eq, k0_dev55_eq, k0_dev56_eq, k0_dev57_eq,
    k0_dev58_eq, k0_dev59_eq, k0_dev60_eq, k0_dev61_eq, k0_dev62_eq, k0_dev63_eq, k0_dev64_eq, k0_dev65_eq,
    k0_dev66_eq, k0_dev67_eq, k0_dev68_eq, k0_dev69_eq, k0_dev70_eq, k0_dev71_eq, k0_dev72_eq, k0_dev73_eq,
    k0_dev74_eq, k0_dev75_eq, k0_dev76_eq, k0_dev77_eq, k0_dev78_eq, k0_dev79_eq, k0_dev80_eq, k0_dev81_eq,
    k0_dev82_eq, k0_dev83_eq, k0_dev84_eq, k0_dev85_eq, k0_dev86_eq, k0_dev87_eq, k0_dev88_eq, k0_dev89_eq,
    k0_dev90_eq, k0_dev91_eq, k0_dev92_eq, k0_dev93_eq]
  refine op_congr rfl fun x => ?_
  iterate 31 refine op_congr ?_ fun _ => ?_; · rfl
  refine op_congr ?_ fun _ => ?_; · rfl
  iterate 11 refine op_congr ?_ fun _ => ?_; · rfl
  iterate 2 refine op_congr ?_ fun _ => ?_; · rfl
  iterate 31
    refine op_congr ?_ fun _ => ?_
    · refine Eq.symm (copy_dev (F := F) arg6 harg6 arg7 harg7 arg8 arg9 x _ ?_)
      simp only [k0_dev32_eq, k0_dev33_eq, k0_dev34_eq, k0_dev35_eq, k0_dev36_eq, k0_dev37_eq, k0_dev38_eq,
      k0_dev39_eq, k0_dev40_eq, k0_dev41_eq, k0_dev42_eq, k0_dev43_eq, k0_dev44_eq, k0_dev45_eq, k0_dev46_eq,
      k0_dev47_eq, k0_dev48_eq, k0_dev49_eq, k0_dev50_eq, k0_dev51_eq, k0_dev52_eq, k0_dev53_eq, k0_dev54_eq,
      k0_dev55_eq, k0_dev56_eq, k0_dev57_eq, k0_dev58_eq, k0_dev59_eq, k0_dev60_eq, k0_dev61_eq, k0_dev62_eq]
      rfl
  iterate 2 refine op_congr ?_ fun _ => ?_; · rfl
  iterate 31 refine op_congr ?_ fun _ => ?_; · rfl
  iterate 4 refine op_congr ?_ fun _ => ?_; · rfl
  iterate 31 refine op_congr ?_ fun _ => ?_; · rfl
  iterate 31 refine op_congr ?_ fun _ => ?_; · rfl
  rfl

end Body

end Cert.KernelIdeal.Moe
-- ==== Proof.KernelIdeal.Buffers.lean ====
/-
# The two scratch buffers, cut as the exchange cuts them

The partial result is cut in blocks of thirty-two rows, one per device; the receive buffer in slots, one per shift.
Here: which elements a block and a slot hold, that they are apart, and what a slot holds once a block has been copied
into it.
-/
module

public import proofs.«01_k».proof.Proof.KernelIdeal.Folded

@[expose] public section

noncomputable section

namespace Cert.KernelIdeal.Moe

open Cert.KernelIdeal Cert.KernelIdeal.Gen
open Idealize.ShloMosaic Idealize.ShloMosaic.TcCoe
open Idealize.SL.Sem

/-- Going back and then forward by one shift leads home. -/
theorem past_before : ∀ (c : Dev nD) (k : Fin 31), past (before c k) k = c := by decide
/-- Going forward and then back by one shift leads home. -/
theorem before_past : ∀ (c : Dev nD) (k : Fin 31), before (past c k) k = c := by decide

/-- The whole partial result. -/
abbrev sumM : Memref sig .tc .vmem S1024x1024 .bf16 := Memref.whole cc0_scratch0
/-- The whole receive buffer. -/
abbrev inM : Memref sig .tc .vmem S32x32x1024 .bf16 := Memref.whole cc0_scratch1
/-- The rows of the partial result that device `c` sends at shift `k`. -/
abbrev rows (c : Dev nD) (k : Fin 31) : Memref sig .tc .vmem S32x1024 .bf16 := rowsAt sumM c k
/-- The slot shift `k` lands in. -/
abbrev slot (k : Fin 31) : Memref sig .tc .vmem S32x1024 .bf16 := slotAt inM k

/-- The elements of the slot shift `k` lands in. -/
def slotSet (k : Fin 31) : Finset S32x32x1024.Idx :=
  (Rect.unit (s := S32x32x1024) ![k.val + 1, 0, 0] S1x32x1024.size (slot_inb k)).set
/-- The elements of the block device `c` sends at shift `k`. -/
def rowSet (c : Dev nD) (k : Fin 31) : Finset S1024x1024.Idx :=
  (Rect.unit (s := S1024x1024) (k0_off1 c (BitVec.ofNat 32 (1 + k.val))) S32x1024.size (k0_off1_inb c k)).set

/-- The slot's view covers the slot's elements. -/
theorem slot_set (k : Fin 31) : (slot k).view.set = slotSet k :=
  (View.set_reshape _ _).trans (View.set_slice_whole cc0_scratch1 _)
/-- The block's view covers the block's elements. -/
theorem rows_set (c : Dev nD) (k : Fin 31) : (rows c k).view.set = rowSet c k := View.set_slice_whole cc0_scratch0 _

/-- An element of the receive buffer is in slot `k + 1` when its first coordinate is `k + 1`. -/
theorem mem_slot (k : Fin 31) (i : S32x32x1024.Idx) : i ∈ slotSet k ↔ (i 0).val = k.val + 1 := by
  unfold slotSet
  rw [Rect.mem_set_unit]
  constructor
  · intro hi
    obtain ⟨h1, h2⟩ := hi 0
    have h1' : k.val + 1 ≤ (i 0).val := h1
    have h2' : (i 0).val < k.val + 1 + 1 := h2
    omega
  · intro hi a
    match a with
    | ⟨0, _⟩ =>
      refine ⟨?_, ?_⟩
      · show k.val + 1 ≤ (i 0).val; omega
      · show (i 0).val < k.val + 1 + 1; omega
    | ⟨1, _⟩ => exact ⟨Nat.zero_le _, (by have h : (i 1).val < 32 := (i 1).isLt; show (i 1).val < 0 + 32; omega)⟩
    | ⟨2, _⟩ => exact ⟨Nat.zero_le _, (by have h : (i 2).val < 1024 := (i 2).isLt; show (i 2).val < 0 + 1024; omega)⟩

/-- An element of the partial result is in the block of shift `k` when its row is one of the receiving device's. -/
theorem mem_rows (c : Dev nD) (k : Fin 31) (i : S1024x1024.Idx) :
    i ∈ rowSet c k ↔ (i 0).val / 32 = (past c k).val := by
  unfold rowSet
  rw [Rect.mem_set_unit, k0_off1_eq]
  show _ ↔ (i 0).val / 32 = (c.val + (k.val + 1)) % 32
  constructor
  · intro hi
    obtain ⟨h1, h2⟩ := hi 0
    have h1' : 32 * ((c.val + k.val + 1) % 32) ≤ (i 0).val := h1
    have h2' : (i 0).val < 32 * ((c.val + k.val + 1) % 32) + 32 := h2
    omega
  · intro hi a
    match a with
    | ⟨0, _⟩ =>
      refine ⟨?_, ?_⟩
      · show 32 * ((c.val + k.val + 1) % 32) ≤ (i 0).val; omega
      · show (i 0).val < 32 * ((c.val + k.val + 1) % 32) + 32; omega
    | ⟨1, _⟩ => exact ⟨Nat.zero_le _, (by have h : (i 1).val < 1024 := (i 1).isLt; show (i 1).val < 0 + 1024; omega)⟩

/-- Two slots have no element in common. -/
theorem slot_apart (k l : Fin 31) (h : k ≠ l) : Disjoint (slotSet k) (slotSet l) := by
  rw [Finset.disjoint_left]
  intro i hk hl
  have h1 := (mem_slot k i).mp hk
  have h2 := (mem_slot l i).mp hl
  exact h (Fin.ext (by omega))

/-- Different shifts lead to different devices. -/
theorem past_inj : ∀ (c : Dev nD) (k l : Fin 31), past c k = past c l → k = l := by decide +kernel
/-- No shift leads home. -/
theorem past_ne : ∀ (c : Dev nD) (k : Fin 31), (past c k).val ≠ c.val := by decide

/-- Two blocks of rows have no element in common. -/
theorem rows_apart (c : Dev nD) (k l : Fin 31) (h : k ≠ l) : Disjoint (rowSet c k) (rowSet c l) := by
  rw [Finset.disjoint_left]
  intro i hk hl
  have h1 := (mem_rows c k i).mp hk
  have h2 := (mem_rows c l i).mp hl
  exact h (past_inj c k l (Fin.ext (h1.symm.trans h2)))

/-- The elements of all slots. -/
def slotsSet : Finset S32x32x1024.Idx := Finset.univ.biUnion slotSet
/-- The elements of all the blocks that device `c` sends. -/
def sentSet (c : Dev nD) : Finset S1024x1024.Idx := Finset.univ.biUnion (rowSet c)

/-- Everything from the second slot on is in some shift's slot. -/
theorem mem_slotsSet (i : S32x32x1024.Idx) (h : 1 ≤ (i 0).val) : i ∈ slotsSet := by
  have hi : (i 0).val < 32 := (i 0).isLt
  refine Finset.mem_biUnion.mpr ⟨⟨(i 0).val - 1, by omega⟩, Finset.mem_univ _, (mem_slot _ i).mpr ?_⟩
  show (i 0).val = (i 0).val - 1 + 1
  omega

/-- A device's own rows are in no block it sends. -/
theorem own_not_sent (c : Dev nD) (i : S1024x1024.Idx) (h : (i 0).val / 32 = c.val) : i ∉ sentSet c := by
  intro hi
  obtain ⟨k, -, hk⟩ := Finset.mem_biUnion.mp hi
  exact past_ne c k (((mem_rows c k i).mp hk).symm.trans h)

/-- Row `r` of the thirty-two that device `c` owns, among all the rows. -/
def ownRow (c : Dev nD) (r : Fin 32) : Fin 1024 := ⟨32 * c.val + r.val, by have h1 : c.val < 32 := c.isLt; have h2 := r.isLt; omega⟩

/-- What the receive buffer of device `c` holds when every device `d` has the partial result `S d`: in slot `k + 1` the
    block of `c`'s rows from the device `k + 1` places before it. -/
def gather {α : Type} (S : Dev nD → S1024x1024.Idx → α) (c : Dev nD) : S32x32x1024.Idx → α := fun i =>
  S (before c ⟨(i 0).val - 1, by have h : (i 0).val < 32 := (i 0).isLt; omega⟩)
    (Fin.cons (ownRow c (i 1)) (Fin.cons (i 2) finZeroElim))

variable {F : FTy → Type} [FloatOps F]

/-- Where a block's element lies in the partial result. -/
theorem rows_emb (c : Dev nD) (k : Fin 31) (x : S32x1024.Idx) :
    (rows c k).view.emb x = (Fin.cons (ownRow (past c k) (x 0)) (Fin.cons (x 1) finZeroElim) : S1024x1024.Idx) := by
  refine funext fun a => Fin.ext ?_
  have e := congrFun (k0_off1_eq c k)
  show k0_off1 c (BitVec.ofNat 32 (1 + k.val)) a + 1 * (x a).val = _
  rw [e a]
  match a with
  | ⟨0, _⟩ =>
    show 32 * ((c.val + k.val + 1) % 32) + 1 * (x 0).val = 32 * ((c.val + (k.val + 1)) % 32) + (x 0).val
    rw [Nat.add_assoc]; omega
  | ⟨1, _⟩ => show 0 + 1 * (x 1).val = (x 1).val; omega

/-- Where a slot's element lies in the receive buffer. -/
theorem slot_emb (k : Fin 31) (x : S32x1024.Idx) :
    (slot k).view.emb x
      = (Fin.cons ⟨k.val + 1, by have := k.isLt; show _ < 32; omega⟩ (Fin.cons (x 0) (Fin.cons (x 1) finZeroElim)) : S32x32x1024.Idx) := by
  have h : (slot k).view.emb x = (Rect.unit (s := S32x32x1024) ![k.val + 1, 0, 0] S1x32x1024.size (slot_inb k)).emb
      (Shape.reshapeEquiv (s := S1x32x1024) (s' := S32x1024) (Shape.Squeezes.numel_eq squeezes_S1x32x1024_S32x1024) x) := rfl
  have h1 : Shape.reshapeEquiv (s := S1x32x1024) (s' := S32x1024) (Shape.Squeezes.numel_eq squeezes_S1x32x1024_S32x1024) x
      = (Fin.cons ⟨0, Nat.one_pos⟩ (Fin.cons (x 0) (Fin.cons (x 1) finZeroElim)) : S1x32x1024.Idx) :=
    (Shape.reshapeEquiv_cons_one _ x).trans (funext fun a => Fin.ext (by
      match a with
      | ⟨0, _⟩ => rfl
      | ⟨1, _⟩ => rfl
      | ⟨2, _⟩ => rfl))
  rw [h, h1]
  refine funext fun a => Fin.ext ?_
  match a with
  | ⟨0, _⟩ => rfl
  | ⟨1, _⟩ => show 0 + 1 * (x 0).val = (x 0).val; omega
  | ⟨2, _⟩ => show 0 + 1 * (x 1).val = (x 1).val; omega

/-- A slot that received the block of the partial result `S c` sent at its shift holds, wherever it lies, what the receiving
    device gathers there. -/
theorem landed (S : Dev nD → (cc0_scratch0 : Ref sig .tc).ty.Contents (Elt F)) (c : Dev nD) (k : Fin 31)
    (fd : (cc0_scratch1 : Ref sig .tc).ty.Contents (Elt F)) :
    ∀ i ∈ slotSet k,
      (slot k).view.write (Elt F) fd ((rows c k).view.read (Elt F) (S c)) Finset.univ i = gather S (past c k) i := by
  intro i hi
  have hi' : i ∈ (slot k).view.set := (slot_set k).symm ▸ hi
  obtain ⟨x, -, rfl⟩ := Finset.mem_map.mp hi'
  refine (View.write_emb_of_mem (v := (slot k).view) _ _ (Finset.mem_univ x)).trans ?_
  show S c ((rows c k).view.emb x) = gather S (past c k) ((slot k).view.emb x)
  rw [rows_emb, slot_emb]
  have hk : (⟨k.val + 1 - 1, by have := k.isLt; omega⟩ : Fin 31) = k := Fin.ext (by show k.val + 1 - 1 = k.val; omega)
  have hb : before (past c k) ⟨k.val + 1 - 1, by have := k.isLt; omega⟩ = c := by rw [hk]; exact before_past c k
  exact congrArg (fun d => S d (Fin.cons (ownRow (past c k) (x 0)) (Fin.cons (x 1) finZeroElim))) hb.symm

end Cert.KernelIdeal.Moe
-- ==== Proof.KernelIdeal.Protocol.lean ====
/-
# The protocol of the exchange

Each device has an entry barrier cell, a closing cell, and per shift a send cell and a receive cell. All of them have
one round.

* The barrier cell of `c` gets one unit per shift: shift `k`'s comes from the device `k + 1` places after `c` and brings
  that device's slot `k + 1`, into which `c` will copy at this shift.
* The receive cell of shift `k` gets a block's credit from the copy of the device `k + 1` places before, and with it the
  slot, holding that device's rows.
* The send cell of shift `k` gets a block's credit when the copy has left, and with it the rows it read.
* The closing cell gets one unit per shift and nothing with it.
-/
module

public import proofs.«01_k».proof.Proof.KernelIdeal.Buffers
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Rounds.Family
public import Idealize.ShloMosaic.Lib.Tactic

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Cells -/

/-- A device's cells: the barrier (`inl false`), the closing cell (`inl true`), and per shift the send cell
    (`inr (false, k)`) and the receive cell (`inr (true, k)`). -/
abbrev CI : Type := Bool ⊕ (Bool × Fin 31)

/-- The semaphore behind each. -/
def csem : CI → SemLoc sig
  | .inl false => .reg barrier0
  | .inl true => .reg cc0_scratch4.sem
  | .inr (false, k) => .dma (semAt cc0_scratch2 k)
  | .inr (true, k) => .dma (semAt cc0_scratch3 k)

/-- The cells in a list, to look one up by its semaphore. -/
def allCells : List CI := [.inl false, .inl true] ++ (shifts.map fun k => .inr (false, k)) ++ (shifts.map fun k => .inr (true, k))
/-- Which cell a semaphore is, if it is one. -/
def kind (s : SemLoc sig) : Option CI := allCells.find? fun i => decide (csem i = s)
/-- Looking a cell's semaphore up finds the cell. -/
theorem kind_csem : ∀ i, kind (csem i) = some i := by decide +kernel

/-- Cell `i` of device `c`. -/
abbrev cell (c : Dev nD) (i : CI) : GSem nD τ sig := ((c : Thread nD τ), csem i)
/-- The barrier cell, -/
abbrev barCell (c : Dev nD) : GSem nD τ sig := cell c (.inl false)
/-- the closing cell, -/
abbrev ackCell (c : Dev nD) : GSem nD τ sig := cell c (.inl true)
/-- a send cell, -/
abbrev sendCell (c : Dev nD) (k : Fin 31) : GSem nD τ sig := cell c (.inr (false, k))
/-- a receive cell. -/
abbrev recvCell (c : Dev nD) (k : Fin 31) : GSem nD τ sig := cell c (.inr (true, k))

/-- Cells of different devices, or different cells, are different. -/
theorem cell_inj : Function.Injective fun ci : Dev nD × CI => cell ci.1 ci.2 := by
  rintro ⟨c, i⟩ ⟨c', i'⟩ h
  have h1 : c = c' := congrArg (fun g : GSem nD τ sig => g.1.1) h
  have h2 : csem i = csem i' := congrArg Prod.snd h
  have h3 : some i = some i' := by rw [← kind_csem i, ← kind_csem i', h2]
  rw [h1, Option.some.inj h3]

/-- The credit of one block. -/
def N : ℕ := (slot 0).view.dmaCredit
/-- A block has a credit. -/
theorem N_pos : 0 < N := View.dmaCredit_pos _ (by decide)
/-- Every slot's credit is a block's. -/
theorem credit_slot (k : Fin 31) : (slot k).view.dmaCredit = N := rfl
/-- So is the credit of the rows of a shift. -/
theorem credit_rows (c : Dev nD) (k : Fin 31) : (rows c k).view.dmaCredit = N := rfl

/-! ## Resources -/

/-- The exchange's resources: duties named by the shift. -/
abbrev UB : Type := URounds (GSem nD τ sig) (Fin 31)
/-- Next to the pipeline's. -/
abbrev UU : Type := UR sig nD τ × UB

local notation "𝕄" => MT nD τ sig Unit (Elt F) ℕ UU ℕ

/-- Where the pipeline's resources sit, -/
abbrev EP : Emb (UR sig nD τ) (MT nD τ sig Unit (Elt F) ℕ UU ℕ) := embL
/-- and where the exchange's do. -/
abbrev ER : Emb UB (MT nD τ sig Unit (Elt F) ℕ UU ℕ) := embR

/-- Contents of the partial result's buffer. -/
abbrev SumVal (F : FTy → Type) : Type := (cc0_scratch0 : Ref sig .tc).ty.Contents (Elt F)
/-- Contents of the receive buffer. -/
abbrev InVal (F : FTy → Type) : Type := (cc0_scratch1 : Ref sig .tc).ty.Contents (Elt F)

/-- Slot `k + 1` of device `d`, held at contents `f`. -/
def slotPts (d : Dev nD) (k : Fin 31) (f : InVal F) : sProp 𝕄 :=
  ((d : Thread nD τ).loc cc0_scratch1) ↦[slotSet k]{fullShare} f
/-- The rows device `d` sends at shift `k`, held at contents `f`. -/
def rowPts (d : Dev nD) (k : Fin 31) (f : SumVal F) : sProp 𝕄 :=
  ((d : Thread nD τ).loc cc0_scratch0) ↦[rowSet d k]{fullShare} f

omit [FloatOps F] in
/-- A slot can be handed over. -/
instance slotPts_storable (d : Dev nD) (k : Fin 31) (f : InVal F) : BI.Storable (upEmb : UEmb _ 𝕄) (slotPts (F := F) d k f) := by
  unfold slotPts; infer_instance
omit [FloatOps F] in
/-- A block of rows can be handed over. -/
instance rowPts_storable (d : Dev nD) (k : Fin 31) (f : SumVal F) : BI.Storable (upEmb : UEmb _ 𝕄) (rowPts (F := F) d k f) := by
  unfold rowPts; infer_instance

/-! ## The schedule -/

section Sched

-- The partial results, per device.
variable (S : Dev nD → SumVal F)

/-- What comes with a unit on cell `i` of device `c`, under the duty of shift `d`. -/
def pay (c : Dev nD) : CI → Fin 31 → sProp 𝕄
  | .inl false, d => iprop(∃ f : InVal F, slotPts (past c d) d f)
  | .inl true, _ => iprop(emp)
  | .inr (false, k), _ => rowPts c k (S c)
  | .inr (true, k), _ => slotPts c k (gather S c)

/-- The duties of a cell in its one round: one per shift on the two counted cells, one on a copy's. -/
def dutiesOf : CI → Finset (Fin 31)
  | .inl _ => Finset.univ
  | .inr _ => {0}

/-- The amount of one duty. -/
def amountOf : CI → ℕ
  | .inl _ => 1
  | .inr _ => N

/-- The exchange's schedule: round 0 only. -/
def xRd : Rounds.Schedule (GSem nD τ sig) (Fin 31) 𝕄 where
  duties g r := if r = 0 then (match kind g.2 with | some i => dutiesOf i | none => ∅) else ∅
  unitless _ := False
  amount g _ _ := match kind g.2 with | some i => amountOf i | none => 1
  payload g _ d := match kind g.2 with | some i => pay S g.1.1 i d | none => iprop(emp)
  amount_pos g _ _ _ := by
    cases kind g.2 with
    | none => exact Nat.one_pos
    | some i => cases i with
      | inl _ => exact Nat.one_pos
      | inr _ => exact N_pos

/-- Whatever a duty brings can be handed over. -/
instance pay_storable (c : Dev nD) (i : CI) (d : Fin 31) : BI.Storable (upEmb : UEmb _ 𝕄) (pay S c i d) := by
  rcases i with (_ | _) | ⟨_ | _, k⟩ <;> unfold pay <;> infer_instance

instance xRd_payload_storable (g : GSem nD τ sig) (r : ℕ) (d : Fin 31) :
    BI.Storable (upEmb : UEmb _ 𝕄) ((xRd S).payload g r d) := by
  show BI.Storable upEmb (match kind g.2 with | some i => pay S g.1.1 i d | none => iprop(emp))
  cases kind g.2 <;> infer_instance

variable (c : Dev nD) (i : CI)

/-- The duties of a cell. -/
theorem duties_cell : (xRd S).duties (cell c i) 0 = dutiesOf i := by
  dsimp only [xRd]; rw [if_pos rfl, kind_csem]
/-- No later round has any. -/
theorem duties_later (g : GSem nD τ sig) : ∀ r, 1 ≤ r → (xRd S).duties g r = ∅ := fun r hr => by
  dsimp only [xRd]; rw [if_neg (by omega)]
/-- The amounts of a cell. -/
theorem amount_cell (d : Fin 31) : (xRd S).amount (cell c i) 0 d = amountOf i := by
  dsimp only [xRd]; rw [kind_csem]
/-- What comes with its duties. -/
theorem payload_cell (d : Fin 31) : (xRd S).payload (cell c i) 0 d = pay S c i d := by
  dsimp only [xRd]; rw [kind_csem]

/-- A counted cell expects thirty-one units, -/
theorem expect_count (b : Bool) : (xRd S).expect (cell c (.inl b)) 0 = 31 := by
  unfold Schedule.expect Schedule.amountOf
  rw [duties_cell, Finset.sum_congr rfl fun d _ => amount_cell S c (.inl b) d,
    show dutiesOf (.inl b) = Finset.univ from rfl, show amountOf (.inl b) = 1 from rfl, Finset.sum_const, Finset.card_univ,
    Fintype.card_fin, smul_eq_mul]
/-- a copy's cell one block's credit. -/
theorem expect_copy (b : Bool) (k : Fin 31) : (xRd S).expect (cell c (.inr (b, k))) 0 = N := by
  unfold Schedule.expect Schedule.amountOf
  rw [duties_cell, Finset.sum_congr rfl fun d _ => amount_cell S c (.inr (b, k)) d,
    show dutiesOf (.inr (b, k)) = {0} from rfl, Finset.sum_singleton]
  rfl

/-- All that a copy's cell brings. -/
theorem rest_copy (b : Bool) (k : Fin 31) :
    bigSep ((xRd S).duties (cell c (.inr (b, k))) 0 \ ∅) (fun d => (xRd S).payload (cell c (.inr (b, k))) 0 d)
      = pay S c (.inr (b, k)) 0 := by
  rw [Finset.sdiff_empty, duties_cell, show dutiesOf (.inr (b, k)) = {0} from rfl, bigSep_singleton, payload_cell]
/-- All that the barrier cell brings: every slot this device will copy into. -/
theorem rest_bar :
    bigSep ((xRd S).duties (barCell c) 0 \ ∅) (fun d => (xRd S).payload (barCell c) 0 d)
      = bigSep Finset.univ fun k : Fin 31 => iprop(∃ f : InVal F, slotPts (past c k) k f) := by
  rw [Finset.sdiff_empty, duties_cell, show dutiesOf (.inl false) = Finset.univ from rfl]
  exact bigSep_congr fun k _ => payload_cell S c _ k

end Sched

/-! ## Dues and levels -/

/-- Dues of the same kind, one per shift in a list. -/
def dues (f : Fin 31 → CellTallies nD τ sig Unit) (l : List (Fin 31)) : CellTallies nD τ sig Unit := (l.map f).sum

/-- What `c` owes at shift `k` to the barrier, -/
def barDue (c : Dev nD) (k : Fin 31) : CellTallies nD τ sig Unit := tallyAt (barCell (before c k)) () 1
/-- to the closing cell, -/
def ackDue (c : Dev nD) (k : Fin 31) : CellTallies nD τ sig Unit := tallyAt (ackCell (before c k)) () 1
/-- to the receive cell. -/
def recvDue (c : Dev nD) (k : Fin 31) : CellTallies nD τ sig Unit := tallyAt (recvCell (past c k) k) () N

/-- Everything `c` owes at launch. -/
def O₀ (c : Dev nD) : CellTallies nD τ sig Unit := (dues (ackDue c) shifts + dues (recvDue c) shifts) + dues (barDue c) shifts

/-- Dues peel off a list one by one. -/
theorem dues_cons (X : CellTallies nD τ sig Unit) (f : Fin 31 → CellTallies nD τ sig Unit) (k : Fin 31) (l : List (Fin 31)) :
    X + dues f (k :: l) = (X + dues f l) + f k := by
  unfold dues; rw [List.map_cons, List.sum_cons, add_comm (f k), add_assoc]
/-- No shift, no dues. -/
theorem dues_nil (X : CellTallies nD τ sig Unit) (f : Fin 31 → CellTallies nD τ sig Unit) : X + dues f [] = X := by
  unfold dues; rw [List.map_nil, List.sum_nil, add_zero]
/-- Over all shifts the list's sum is the sum. -/
theorem dues_shifts (f : Fin 31 → CellTallies nD τ sig Unit) : dues f shifts = ∑ k, f k := by
  unfold dues
  rw [← List.sum_toFinset f nodup_shifts]
  exact Finset.sum_congr (Finset.ext fun k => ⟨fun _ => Finset.mem_univ k, fun _ => List.mem_toFinset.mpr (mem_shifts k)⟩) fun _ _ => rfl
/-- A positive due comes from a shift. -/
theorem dues_pos {f : Fin 31 → CellTallies nD τ sig Unit} {g : GSem nD τ sig} {u : Unit} (h : 0 < dues f shifts g u) :
    ∃ k, 0 < f k g u := by
  rw [dues_shifts] at h
  obtain ⟨k, -, hk⟩ := Pipeline.sum_pos_exists h
  exact ⟨k, hk⟩

/-- The indices a cell has a level at: the one there is, on a TensorCore. -/
def L (g : GSem nD τ sig) : Finset Unit := if g.1.2 = .tc then {()} else ∅
/-- Levels: barriers below receive cells below closing cells; staging and send cells below all. -/
def lv (g : GSem nD τ sig) (_ : Unit) : ℕ :=
  match kind g.2 with
  | some (.inl false) => 1
  | some (.inr (true, _)) => 2
  | some (.inl true) => 3
  | _ => 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _

/-- The barrier's level, -/
theorem lv_bar (c : Dev nD) (u : Unit) : lv (barCell c) u = 1 := by unfold lv; rw [kind_csem]
/-- the closing cell's, -/
theorem lv_ack (c : Dev nD) (u : Unit) : lv (ackCell c) u = 3 := by unfold lv; rw [kind_csem]
/-- a receive cell's, -/
theorem lv_recv (c : Dev nD) (k : Fin 31) (u : Unit) : lv (recvCell c k) u = 2 := by unfold lv; rw [kind_csem]
/-- a send cell's. -/
theorem lv_send (c : Dev nD) (k : Fin 31) (u : Unit) : lv (sendCell c k) u = 0 := by unfold lv; rw [kind_csem]

/-- Where a device owes closing units, the level is 3. -/
theorem ack_above {c : Dev nD} {g : GSem nD τ sig} {u : Unit} (h : 0 < dues (ackDue c) shifts g u) : u ∈ L g ∧ lv g u = 3 := by
  obtain ⟨k, hk⟩ := dues_pos h
  obtain ⟨rfl, rfl⟩ := Pipeline.tallyAt_pos hk
  exact ⟨L_tc _ _, lv_ack _ _⟩
/-- Where it owes a copy's credit, 2. -/
theorem recv_above {c : Dev nD} {g : GSem nD τ sig} {u : Unit} (h : 0 < dues (recvDue c) shifts g u) : u ∈ L g ∧ lv g u = 2 := by
  obtain ⟨k, hk⟩ := dues_pos h
  obtain ⟨rfl, rfl⟩ := Pipeline.tallyAt_pos hk
  exact ⟨L_tc _ _, lv_recv _ _ _⟩
/-- Where it owes a barrier unit, 1. -/
theorem bar_above {c : Dev nD} {g : GSem nD τ sig} {u : Unit} (h : 0 < dues (barDue c) shifts g u) : u ∈ L g ∧ lv g u = 1 := by
  obtain ⟨k, hk⟩ := dues_pos h
  obtain ⟨rfl, rfl⟩ := Pipeline.tallyAt_pos hk
  exact ⟨L_tc _ _, lv_bar _ _⟩

/-- At the barrier a device owes copies and closing units, all above it. -/
theorem mayWait_bar (c : Dev nD) :
    (levAts L lv : sProp 𝕄) ⊢ MayWait (c : Thread nD τ) (csem (.inl false)) () (dues (ackDue c) shifts + dues (recvDue c) shifts) :=
  Pipeline.mayWait_of_levAts (L_tc _ _) fun g u h => by
    rw [show lv ((c : Thread nD τ), csem (.inl false)) () = 1 from lv_bar c ()]
    rcases Pipeline.add_pos_cases h with h | h
    · exact ⟨(ack_above h).1, by rw [(ack_above h).2]; decide⟩
    · exact ⟨(recv_above h).1, by rw [(recv_above h).2]; decide⟩
/-- Waiting on a copy's cell it owes closing units, above both kinds. -/
theorem mayWait_copy (c : Dev nD) (b : Bool) (k : Fin 31) :
    (levAts L lv : sProp 𝕄) ⊢ MayWait (c : Thread nD τ) (csem (.inr (b, k))) () (dues (ackDue c) shifts) :=
  Pipeline.mayWait_of_levAts (L_tc _ _) fun g u h => ⟨(ack_above h).1, by
    rw [(ack_above h).2]
    cases b
    · exact lt_of_eq_of_lt (lv_send c k ()) (by decide)
    · exact lt_of_eq_of_lt (lv_recv c k ()) (by decide)⟩
/-- A staging semaphore is below everything a device owes at launch. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L_tc _ _) fun g u h => ?_
    have h0 : lv ((c : Thread nD τ), .dma q) () = 0 := by unfold lv; rw [show ((c : Thread nD τ), SemLoc.dma q).2 = .dma q from rfl, hq]
    rw [h0]
    unfold O₀ at h
    rcases Pipeline.add_pos_cases h with h | h
    · rcases Pipeline.add_pos_cases h with h | h
      · exact ⟨(ack_above h).1, by rw [(ack_above h).2]; decide⟩
      · exact ⟨(recv_above h).1, by rw [(recv_above h).2]; decide⟩
    · exact ⟨(bar_above h).1, by rw [(bar_above h).2]; decide⟩
  · rw [MayWait_zero]; iintro -; iempintro

/-! ## What everyone knows -/

/-- All cells' invariants, under the names `K`, and that every cell has reached round 0. -/
def records (S : Dev nD → SumVal F) (K : Dev nD × CI → ℕ) : sProp 𝕄 :=
  iprop((bigSep Finset.univ fun ci : Dev nD × CI => cellInv ER (xRd S) (K ci) (cell ci.1 ci.2))
    ∗ bigSep Finset.univ fun ci : Dev nD × CI => reached ER (cell ci.1 ci.2) 0)

instance records_persistent (S : Dev nD → SumVal F) (K : Dev nD × CI → ℕ) : BI.Persistent (records S K) := by
  unfold records; infer_instance

/-- One cell's invariant out of them, -/
theorem inv_at (S : Dev nD → SumVal F) (K : Dev nD × CI → ℕ) (c : Dev nD) (i : CI) :
    records S K ⊢ cellInv ER (xRd S) (K (c, i)) (cell c i) := by
  unfold records
  iintro ⟨H, -⟩
  iapply (show (bigSep Finset.univ fun ci : Dev nD × CI => (cellInv ER (xRd S) (K ci) (cell ci.1 ci.2) : sProp 𝕄))
    ⊢ cellInv ER (xRd S) (K (c, i)) (cell c i) from bigSep_elim (Finset.mem_univ (c, i)))
  iexact H
/-- and that the cell has reached round 0. -/
theorem reached_at (S : Dev nD → SumVal F) (K : Dev nD × CI → ℕ) (c : Dev nD) (i : CI) :
    records S K ⊢ (reached ER (cell c i) 0 : sProp 𝕄) := by
  unfold records
  iintro ⟨-, H⟩
  iapply (show (bigSep Finset.univ fun ci : Dev nD × CI => (reached ER (cell ci.1 ci.2) 0 : sProp 𝕄))
    ⊢ reached ER (cell c i) 0 from bigSep_elim (Finset.mem_univ (c, i)))
  iexact H

end Cert.KernelIdeal.Moe
-- ==== Proof.KernelIdeal.Passes.lean ====
/-
# The five passes

One lemma runs a pass: if each statement takes its shift's resources to what it leaves, the pass takes all of them to
all that is left. Then each of the five kinds of statement, stated once at a symbolic device and shift.
-/
module

public import proofs.«01_k».proof.Proof.KernelIdeal.Protocol

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel brings no variants. -/
abbrev 𝒱₀ : Variants := Variants.none

/-- A program run by device `c` meets a condition. -/
abbrev Meets (c : Dev nD) (p : TcProg F PUnit) (Q : PUnit → sProp 𝕄) : sProp 𝕄 :=
  wp frame (wpE (defs₀ (F := F)) 𝒱₀ (c : Thread nD τ) none) Set.univ p Q

/-- A pass over a list: `A k` is what the statement of shift `k` takes, `B k` what it leaves, `R` what goes along and how it
    shrinks with the list. -/
theorem meets_pass (c : Dev nD) (Q : PUnit → sProp 𝕄) (f : Fin 31 → TcProg F PUnit) (A B : Fin 31 → sProp 𝕄)
    (R : List (Fin 31) → sProp 𝕄) (rest : TcProg F PUnit)
    (step : ∀ (k : Fin 31) (l : List (Fin 31)) (p : TcProg F PUnit),
      iprop(A k ∗ R (k :: l)) ⊢ iprop(((B k ∗ R l) -∗ Meets c p Q) -∗ Meets c (f k >>= fun _ => p) Q)) :
    ∀ l : List (Fin 31), iprop(bigSepL l A ∗ R l) ⊢ iprop(((bigSepL l B ∗ R []) -∗ Meets c rest Q) -∗ Meets c (pass f l rest) Q)
  | [] => by
    unfold pass
    iintro ⟨HA, HR⟩ Hk
    iapply Hk
    isplitl [HA]; · iexact HA
    iexact HR
  | k :: l => by
    unfold pass
    rw [bigSepL_cons', bigSepL_cons']
    iintro ⟨⟨HA, HAs⟩, HR⟩ Hk
    iapply (step k l (pass f l rest)) $$ [HA HR]
    · isplitl [HA]; · iexact HA
      iexact HR
    iintro ⟨HB, HR⟩
    iapply (meets_pass c Q f A B R rest step l) $$ [HAs HR]
    · isplitl [HAs]; · iexact HAs
      iexact HR
    iintro ⟨HBs, HR⟩
    iapply Hk
    isplitl [HB HBs]
    · isplitl [HB]; · iexact HB
      iexact HBs
    iexact HR

omit [FloatOps F] in
/-- The shifts in a list are all the shifts. -/
theorem bigSep_shifts (Φ : Fin 31 → sProp 𝕄) : bigSep Finset.univ Φ = bigSepL shifts Φ :=
  bigSep_univ_eq_bigSepL shifts (Finset.ext fun k => ⟨fun _ => List.mem_toFinset.mpr (mem_shifts k), fun _ => Finset.mem_univ k⟩)
    nodup_shifts Φ

/-- The pass over all shifts. -/
theorem meets_shifts (c : Dev nD) (Q : PUnit → sProp 𝕄) (f : Fin 31 → TcProg F PUnit) (A B : Fin 31 → sProp 𝕄)
    (R : List (Fin 31) → sProp 𝕄) (rest : TcProg F PUnit)
    (step : ∀ (k : Fin 31) (l : List (Fin 31)) (p : TcProg F PUnit),
      iprop(A k ∗ R (k :: l)) ⊢ iprop(((B k ∗ R l) -∗ Meets c p Q) -∗ Meets c (f k >>= fun _ => p) Q)) :
    iprop(bigSep Finset.univ A ∗ R shifts)
      ⊢ iprop(((bigSep Finset.univ B ∗ R []) -∗ Meets c rest Q) -∗ Meets c (pass f shifts rest) Q) := by
  rw [bigSep_shifts, bigSep_shifts]
  exact meets_pass c Q f A B R rest step shifts

section Steps

variable (S : Dev nD → SumVal F) (K : Dev nD × CI → ℕ) (c : Dev nD)

/-- What goes along a pass: what everyone knows, the levels, and what the device still owes. -/
def along (O : CellTallies nD τ sig Unit) : sProp 𝕄 :=
  iprop(records S K ∗ levAts L lv ∗ ∃ W, owes (c : Thread nD τ) O W)

/-- A signal of shift `k` on a counted cell takes the duty's token and what comes with the unit. -/
theorem signal_step (Q : PUnit → sProp 𝕄) (b : Bool) (sem : Sem sig) (hsem : csem (.inl b) = .reg sem) (X : CellTallies nD τ sig Unit)
    (k : Fin 31) (l : List (Fin 31)) (p : TcProg F PUnit) :
    iprop((dutyTok ER (cell (before c k) (.inl b)) 0 k ∗ pay S (before c k) (.inl b) k)
        ∗ along S K c (X + dues (fun k => tallyAt (cell (before c k) (.inl b)) () 1) (k :: l)))
      ⊢ iprop(((emp ∗ along S K c (X + dues (fun k => tallyAt (cell (before c k) (.inl b)) () 1) l)) -∗ Meets c p Q)
          -∗ Meets c (signalAt sem c k >>= fun _ => p) Q) := by
  have hcell : ∀ d : Dev nD, cell d (.inl b) = ((d : Thread nD τ), .reg sem) := fun d => by rw [← hsem]
  unfold signalAt along
  simp only [semSignalWord, Prog.lift, Prog.bind_op, Prog.bind_ret, Prog.pure_eq_ret]
  iintro ⟨⟨Ht, Hp⟩, ⟨#Hrec, #Hlev, ⟨%W, HO⟩⟩⟩ Hk
  iapply (Rounds.wp_signal 𝒱₀ ER (xRd S) (c : Thread nD τ) none (dst := (before c k : Thread nD τ)) (sem := sem)
      (κ := K (before c k, .inl b)) (d := k) (r := 0)
      (by rw [← hcell, duties_cell]; exact Finset.mem_univ _) ((congrArg (fun g => (xRd S).amount g 0 k) (hcell _).symm).trans ((amount_cell S (before c k) (.inl b) k).trans (show amountOf (.inl b) = (1#32).toNat from rfl))) ()
      (X + dues (fun k => tallyAt (cell (before c k) (.inl b)) () 1) l)
      (O₀ := X + dues (fun k => tallyAt (cell (before c k) (.inl b)) () 1) (k :: l)) (by rw [dues_cons, hcell]; rfl) (W := W)) $$ [HO Ht Hp]
  · rw [← hcell]
    isplitr; · iapply (inv_at S K (before c k) (.inl b)); iexact Hrec
    isplitl [HO]; · iexact HO
    isplitl [Ht]; · iexact Ht
    isplitl [Hp]; · rw [payload_cell]; iexact Hp
    iapply (reached_at S K (before c k) (.inl b)); iexact Hrec
  iintro HO
  iapply Hk
  isplitr; · iempintro
  isplitr; · iexact Hrec
  isplitr; · iexact Hlev
  iexists W; iexact HO

/-- A wait for everything a copy's cell gets: it takes the position and the credit and leaves what came. -/
theorem wait_step (Q : PUnit → sProp 𝕄) (b : Bool) (k : Fin 31) (O : CellTallies nD τ sig Unit) (hO : O = dues (ackDue c) shifts)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem (.inr (b, k))) N P)
    (p : TcProg F PUnit) :
    iprop((atPos ER (cell c (.inr (b, k))) 0 ∅ 0 ∗ cred (tallyAt (cell c (.inr (b, k))) () N)) ∗ along S K c O)
      ⊢ iprop((((pay S c (.inr (b, k)) 0 ∗ atPos ER (cell c (.inr (b, k))) 1 ∅ 0) ∗ along S K c O) -∗ Meets c p Q)
          -∗ Meets c (.op w fun _ => p) Q) := by
  subst hO
  unfold along
  iintro ⟨⟨Hat, Hcr⟩, ⟨#Hrec, #Hlev, ⟨%W, HO⟩⟩⟩ Hk
  iapply (Rounds.wp_wait_rest_token 𝒱₀ ER (xRd S) (c : Thread nD τ) none (κ := K (c, .inr (b, k)))
      hw (Set.mem_univ _) () (O := dues (ackDue c) shifts) (W := W) (R := 0) (m := 0) (T := ∅)
      (by rw [Nat.zero_add]; exact (expect_copy S c b k).symm)) $$ [Hcr HO Hat]
  · isplitr; · iapply (inv_at S K c (.inr (b, k))); iexact Hrec
    isplitl [Hcr]; · iexact Hcr
    isplitl [HO]; · iexact HO
    isplitr; · iapply (mayWait_copy c b k); iexact Hlev
    iexact Hat
  iintro ⟨HO, Hat, -, Hpay⟩
  ihave Hpay' := (Entails.of_eq (rest_copy S c b k)) $$ Hpay
  iapply Hk
  isplitl [Hpay' Hat]
  · isplitl [Hpay']; · iexact Hpay'
    iexact Hat
  isplitr; · iexact Hrec
  isplitr; · iexact Hlev
  iexists _; iexact HO

/-- The wait for what shift `k` brings. -/
theorem arrive_step (Q : PUnit → sProp 𝕄) (O : CellTallies nD τ sig Unit) (hO : O = dues (ackDue c) shifts) (k : Fin 31) (p : TcProg F PUnit) :
    iprop((atPos ER (recvCell c k) 0 ∅ 0 ∗ cred (tallyAt (recvCell c k) () N)) ∗ along S K c O)
      ⊢ iprop((((slotPts c k (gather S c) ∗ atPos ER (recvCell c k) 1 ∅ 0) ∗ along S K c O) -∗ Meets c p Q)
          -∗ Meets c (arriveAt sumM (Memref.isWhole_whole _) inM (Memref.isWhole_whole _) cc0_scratch3 c k >>= fun _ => p) Q) := by
  unfold arriveAt
  simp only [Prog.lift, Prog.bind_op, Prog.bind_ret, Prog.pure_eq_ret]
  exact wait_step S K c Q true k O hO (by
    intro P
    rw [← credit_slot k]
    exact wpE_waitDma2_eq 𝒱₀ (c : Thread nD τ) none Set.univ P) p

/-- The wait for the copy of shift `k` to have left. -/
theorem leave_step (Q : PUnit → sProp 𝕄) (O : CellTallies nD τ sig Unit) (hO : O = dues (ackDue c) shifts) (k : Fin 31) (p : TcProg F PUnit) :
    iprop((atPos ER (sendCell c k) 0 ∅ 0 ∗ cred (tallyAt (sendCell c k) () N)) ∗ along S K c O)
      ⊢ iprop((((rowPts c k (S c) ∗ atPos ER (sendCell c k) 1 ∅ 0) ∗ along S K c O) -∗ Meets c p Q)
          -∗ Meets c (leaveAt sumM (Memref.isWhole_whole _) inM (Memref.isWhole_whole _) cc0_scratch2 c k >>= fun _ => p) Q) := by
  unfold leaveAt
  simp only [Prog.lift, Prog.bind_op, Prog.bind_ret, Prog.pure_eq_ret]
  exact wait_step S K c Q false k O hO (by
    intro P
    rw [← credit_rows c k]
    exact wpE_waitDma2_eq 𝒱₀ (c : Thread nD τ) none Set.univ P) p

/-- The copy of shift `k`: it takes the rows it sends, the slot it fills, and the two tokens, and leaves the credit of its
    send cell. -/
theorem copy_step (Q : PUnit → sProp 𝕄) (X : CellTallies nD τ sig Unit) (k : Fin 31) (l : List (Fin 31)) (p : TcProg F PUnit) :
    iprop((rowPts c k (S c) ∗ (∃ f : InVal F, slotPts (past c k) k f) ∗ dutyTok ER (sendCell c k) 0 0
          ∗ dutyTok ER (recvCell (past c k) k) 0 0) ∗ along S K c (X + dues (recvDue c) (k :: l)))
      ⊢ iprop(((cred (tallyAt (sendCell c k) () N) ∗ along S K c (X + dues (recvDue c) l)) -∗ Meets c p Q)
          -∗ Meets c (copyAt sumM (Memref.isWhole_whole _) inM (Memref.isWhole_whole _) cc0_scratch2 cc0_scratch3 c k >>= fun _ => p) Q) := by
  unfold copyAt along
  simp only [Prog.lift, Prog.bind_op, Prog.bind_ret, Prog.pure_eq_ret]
  iintro ⟨⟨Hrow, ⟨%f, Hslot⟩, Hts, Htr⟩, ⟨#Hrec, #Hlev, ⟨%W, HO⟩⟩⟩ Hk
  iapply (Rounds.wp_send_pointsTo 𝒱₀ ER (xRd S) (c : Thread nD τ) none (κ₁ := K (c, .inr (false, k))) (κ₂ := K (past c k, .inr (true, k)))
      (r₁ := 0) (r₂ := 0) (d₁ := 0) (d₂ := 0) (fs := S c) (fd := f) (q := fullShare)
      (show (0 : Fin 31) ∈ (xRd S).duties (sendCell c k) 0 by rw [duties_cell]; exact Finset.mem_singleton_self _)
      (show (0 : Fin 31) ∈ (xRd S).duties (recvCell (past c k) k) 0 by rw [duties_cell]; exact Finset.mem_singleton_self _)
      () () N (credit_slot k) (amount_cell S c (.inr (false, k)) 0) (amount_cell S (past c k) (.inr (true, k)) 0)
      (X + dues (recvDue c) l) (dues_cons X (recvDue c) k l) (W := W)
      (by
        refine BIBase.Entails.trans ?_ (Entails.of_eq (payload_cell S c (.inr (false, k)) 0).symm)
        show _ ⊢ rowPts c k (S c)
        unfold rowPts
        rw [rows_set]
        exact BIBase.Entails.rfl)
      (by
        refine BIBase.Entails.trans ?_ (Entails.of_eq (payload_cell S (past c k) (.inr (true, k)) 0).symm)
        show _ ⊢ slotPts (past c k) k (gather S (past c k))
        unfold slotPts
        rw [slot_set]
        exact Entails.of_eq (pointsTo_congr (landed S c k f)))) $$ [Hrow Hslot HO Hts Htr]
  · isplitr; · iapply (inv_at S K c (.inr (false, k))); iexact Hrec
    isplitr; · iapply (inv_at S K (past c k) (.inr (true, k))); iexact Hrec
    isplitl [Hrow]; · rw [rows_set]; unfold rowPts; iexact Hrow
    isplitl [Hslot]; · rw [slot_set]; unfold slotPts; iexact Hslot
    isplitl [HO]; · iexact HO
    isplitl [Hts]; · iexact Hts
    isplitr; · iapply (reached_at S K c (.inr (false, k))); iexact Hrec
    isplitl [Htr]; · iexact Htr
    iapply (reached_at S K (past c k) (.inr (true, k))); iexact Hrec
  iintro ⟨Hcr, HO⟩
  iapply Hk
  isplitl [Hcr]; · iexact Hcr
  isplitr; · iexact Hrec
  isplitr; · iexact Hlev
  iexists W; iexact HO

end Steps

end Cert.KernelIdeal.Moe
-- ==== Proof.KernelIdeal.Body.lean ====
/-
# The body

What each device's buffers hold along the way, and the body run symbolically at a device from what the launch gives it
to what it leaves.
-/
module

public import proofs.«01_k».proof.Proof.KernelIdeal.Passes
public import proofs.«01_k».proof.Proof.Gen.KernelIdeal.Frame

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents -/

/-- One expert's weights out of the four a device holds. -/
def expertAt (e : Nat) (h : ∀ a, (![e, 0, 0] : Fin 3 → Nat) a + S1x512x1024.size a ≤ S4x512x1024.size a)
    (w : Vec F S4x512x1024 .f32) : Vec F S1x512x1024 .f32 :=
  (Memref.whole cc0_stg3_0 : Memref sig .tc .vmem S4x512x1024 .f32).view.readAt (Elt F)
    (Rect.unit (s := S4x512x1024) ![e, 0, 0] S1x512x1024.size h).toLoadRect w

/-- The rows of the input that device `c` owns. -/
def ownX (c : Dev nD) (x : Vec F S1024x512 .f32) : Vec F S32x512 .f32 :=
  (Memref.whole cc0_stg0_0 : Memref sig .tc .vmem S1024x512 .f32).view.readAt (Elt F)
    (Rect.unit (s := S1024x512) (k0_off2 c) S32x512.size (k0_off2_inb c)).toLoadRect x

/-- The rows of the partial result that device `c` owns. -/
def ownSum (c : Dev nD) (s : Vec F S1024x1024 .bf16) : Vec F S32x1024 .bf16 :=
  (sumM : Memref sig .tc .vmem S1024x1024 .bf16).view.readAt (Elt F)
    (Rect.unit (s := S1024x1024) (k0_off3 c) S32x1024.size (k0_off3_inb c)).toLoadRect s

/-- The thirty-one slots that are filled. -/
def filled (r : Vec F S32x32x1024 .bf16) : Vec F S31x32x1024 .bf16 :=
  (inM : Memref sig .tc .vmem S32x32x1024 .bf16).view.readAt (Elt F)
    (Rect.unit (s := S32x32x1024) ![1, 0, 0] S31x32x1024.size inb_S32x32x1024_S31x32x1024_1_0_0).toLoadRect r

section Contents

variable (m : (ℓ : Loc nD τ sig) → Buf (Elt F) ℓ) (c : Dev nD)

/-- The staged input, -/
def xIn : Vec F S1024x512 .f32 := iblk m c 0 t0_0
/-- router weights, -/
def rwIn : Vec F S512x128 .f32 := iblk m c 1 t0_0
/-- expert indices, -/
def ixIn : Vec F S1024x1 .i32 := iblk m c 2 t0_0
/-- the device's expert weights, -/
def exIn : Vec F S4x512x1024 .f32 := iblk m c 3 t0_0
/-- and shared weights. -/
def swIn : Vec F S512x1024 .f32 := iblk m c 4 t0_0

/-- The device's partial result. -/
def sums : SumVal F := partialOf c (xIn m c) (rwIn m c) (ixIn m c)
  (expertAt 0 inb_S4x512x1024_S1x512x1024_0_0_0 (exIn m c)) (expertAt 1 inb_S4x512x1024_S1x512x1024_1_0_0 (exIn m c))
  (expertAt 2 inb_S4x512x1024_S1x512x1024_2_0_0 (exIn m c)) (expertAt 3 inb_S4x512x1024_S1x512x1024_3_0_0 (exIn m c))

/-- The device's block of the result. -/
def outAt : Vec F S32x1024 .f32 :=
  k0_pay9 (k0_pay8 (ownX c (xIn m c)) (swIn m c)) (filled (gather (sums m) c)) (ownSum c (sums m c))

end Contents

/-! ## Cutting and joining the scratch buffers -/

omit [FloatOps F] in
/-- The partial result held whole is its blocks and the rest. -/
theorem sum_cut (c : Dev nD) (f : SumVal F) :
    (((c : Thread nD τ).loc cc0_scratch0 ↦{fullShare} f : sProp 𝕄))
      ⊣⊢ iprop((bigSep Finset.univ fun k : Fin 31 => rowPts c k f) ∗ ((c : Thread nD τ).loc cc0_scratch0) ↦[Finset.univ \ sentSet c]{fullShare} f) := by
  have h := pointsTo_split_subset (ℓ := (c : Thread nD τ).loc cc0_scratch0) (q := fullShare) (f := f) (Ix := Unit) (Name := ℕ) (U := UU) (Lvl := ℕ)
    (Finset.subset_univ (sentSet c))
  have e := pointsTo_biUnion (ℓ := (c : Thread nD τ).loc cc0_scratch0) (q := fullShare) (f := f) (Ix := Unit) (Name := ℕ) (U := UU) (Lvl := ℕ)
    (Finset.univ : Finset (Fin 31)) (rowSet c) (fun k _ l _ hkl => rows_apart c k l hkl)
  unfold rowPts
  unfold sentSet at h ⊢
  rw [e] at h
  exact h

omit [FloatOps F] in
/-- All slots held at one contents are their union held at it. -/
theorem slots_join (c : Dev nD) (f : InVal F) :
    (bigSep Finset.univ fun k : Fin 31 => (slotPts c k f : sProp 𝕄)) = (((c : Thread nD τ).loc cc0_scratch1) ↦[slotsSet]{fullShare} f) :=
  (pointsTo_biUnion (ℓ := (c : Thread nD τ).loc cc0_scratch1) (q := fullShare) (f := f) (Ix := Unit) (Name := ℕ) (U := UU) (Lvl := ℕ)
    (Finset.univ : Finset (Fin 31)) slotSet (fun k _ l _ hkl => slot_apart k l hkl)).symm

omit [FloatOps F] in
/-- The receive buffer held whole is its slots and the rest. -/
theorem in_cut (c : Dev nD) (f : InVal F) :
    (((c : Thread nD τ).loc cc0_scratch1 ↦{fullShare} f : sProp 𝕄))
      ⊢ iprop((bigSep Finset.univ fun k : Fin 31 => slotPts c k f) ∗ ((c : Thread nD τ).loc cc0_scratch1) ↦[Finset.univ \ slotsSet]{fullShare} f) := by
  rw [slots_join]
  exact (pointsTo_split_subset (ℓ := (c : Thread nD τ).loc cc0_scratch1) (q := fullShare) (f := f) (Ix := Unit) (Name := ℕ) (U := UU) (Lvl := ℕ)
    (Finset.subset_univ slotsSet)).1

omit [FloatOps F] in
/-- A device's own rows lie in what it does not send. -/
theorem own_kept (c : Dev nD) :
    ((sumM : Memref sig .tc .vmem S1024x1024 .bf16).access (Rect.unit (s := S1024x1024) (k0_off3 c) S32x1024.size (k0_off3_inb c))).set
      ⊆ (Finset.univ \ sentSet c : Finset S1024x1024.Idx) := by
  rw [show ((sumM : Memref sig .tc .vmem S1024x1024 .bf16).access (Rect.unit (s := S1024x1024) (k0_off3 c) S32x1024.size (k0_off3_inb c))).set
    = ((Rect.unit (s := S1024x1024) (k0_off3 c) S32x1024.size (k0_off3_inb c)).set : Finset S1024x1024.Idx) from View.set_slice_whole cc0_scratch0 _]
  intro i hi
  refine Finset.mem_sdiff.mpr ⟨Finset.mem_univ _, own_not_sent c i ?_⟩
  rw [Rect.mem_set_unit] at hi
  obtain ⟨h1, h2⟩ := hi 0
  have e : k0_off3 c 0 = 32 * c.val := congrFun (k0_off3_eq c) 0
  rw [e] at h1 h2
  have h2' : (i 0).val < 32 * c.val + 32 := h2
  omega

omit [FloatOps F] in
/-- The filled slots are all slots of shifts. -/
theorem filled_slots :
    ((inM : Memref sig .tc .vmem S32x32x1024 .bf16).access
      (Rect.unit (s := S32x32x1024) ![1, 0, 0] S31x32x1024.size inb_S32x32x1024_S31x32x1024_1_0_0)).set
      ⊆ (slotsSet : Finset S32x32x1024.Idx) := by
  rw [show ((inM : Memref sig .tc .vmem S32x32x1024 .bf16).access
      (Rect.unit (s := S32x32x1024) ![1, 0, 0] S31x32x1024.size inb_S32x32x1024_S31x32x1024_1_0_0)).set
    = ((Rect.unit (s := S32x32x1024) ![1, 0, 0] S31x32x1024.size inb_S32x32x1024_S31x32x1024_1_0_0).set : Finset S32x32x1024.Idx) from View.set_slice_whole cc0_scratch1 _]
  intro i hi
  rw [Rect.mem_set_unit] at hi
  exact mem_slotsSet i (hi 0).1

omit [FloatOps F] in
/-- A device's cells one kind after the other. -/
theorem bigSep_cells (Φ : CI → sProp 𝕄) :
    bigSep Finset.univ Φ = iprop((Φ (.inl false) ∗ Φ (.inl true))
      ∗ (bigSep Finset.univ fun k : Fin 31 => Φ (.inr (false, k))) ∗ bigSep Finset.univ fun k : Fin 31 => Φ (.inr (true, k))) := by
  rw [bigSep_univ_sum, bigSep_univ_prod, bigSep_univ_eq_bigSepL [false, true] (by decide) (by decide),
    bigSep_univ_eq_bigSepL [false, true] (by decide) (by decide)]
  rfl

/-- All invariants of a device's cells out of what everyone knows. -/
theorem all_inv (S : Dev nD → SumVal F) (K : Dev nD × CI → ℕ) (c : Dev nD) :
    records S K ⊢ bigSep Finset.univ fun i : CI => cellInv ER (xRd S) (K (c, i)) (cell c i) :=
  bigSep_intro_persistent fun i _ => inv_at S K c i

/-! ## What the body starts from and leaves -/

section Run

variable (m : (ℓ : Loc nD τ sig) → Buf (Elt F) ℓ) (K : Dev nD × CI → ℕ) (c : Dev nD)

/-- The tokens a device pays with. -/
def payToks : sProp 𝕄 :=
  iprop(((bigSep Finset.univ fun k : Fin 31 => dutyTok ER (barCell (before c k)) 0 k) ∗ bigSep Finset.univ fun k : Fin 31 => dutyTok ER (ackCell (before c k)) 0 k)
    ∗ (bigSep Finset.univ fun k : Fin 31 => dutyTok ER (sendCell c k) 0 0) ∗ bigSep Finset.univ fun k : Fin 31 => dutyTok ER (recvCell (past c k) k) 0 0)

/-- What is a device's alone: its cells' positions and the tokens it pays with. -/
def linear : sProp 𝕄 := iprop((bigSep Finset.univ fun i : CI => atPos ER (cell c i) 0 ∅ 0) ∗ payToks c)

/-- The credits a device starts with. -/
def creds : sProp 𝕄 :=
  iprop(cred (tallyAt (barCell c) () 31) ∗ cred (tallyAt (ackCell c) () 31) ∗ bigSep Finset.univ fun k : Fin 31 => cred (tallyAt (recvCell c k) () N))

/-- Both scratch buffers, whole, at any contents. -/
def scratch : sProp 𝕄 :=
  iprop((∃ f : SumVal F, ((c : Thread nD τ).loc cc0_scratch0) ↦{fullShare} f) ∗ ∃ f : InVal F, ((c : Thread nD τ).loc cc0_scratch1) ↦{fullShare} f)

/-- What the launch gives a device. -/
def start : sProp 𝕄 := iprop((∃ K, records (sums m) K ∗ linear c) ∗ creds c ∗ levAts L lv)
/-- Before the body, -/
def Φ₀ : sProp 𝕄 := iprop(start m c ∗ scratch c)
/-- and after it. -/
def Φ₁ : sProp 𝕄 := iprop(scratch c ∗ bigSep Finset.univ fun i : CI => semVal (cell c i) 0)

end Run

/-! ## Reads and writes of whole buffers -/

omit [FloatOps F] in
theorem zero2 : (![0, 0] : Fin 2 → Nat) = fun _ => 0 := funext fun a => by fin_cases a <;> rfl
omit [FloatOps F] in
theorem read_x (f : (cc0_stg0_0 : Ref sig .tc).ty.Contents (Elt F)) :
    (Memref.whole cc0_stg0_0 : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 zero2 _ f
omit [FloatOps F] in
theorem read_rw (f : (cc0_stg1_0 : Ref sig .tc).ty.Contents (Elt F)) :
    (Memref.whole cc0_stg1_0 : Memref sig .tc .vmem S512x128 .f32).view.readAt (Elt F) (Rect.unit (s := S512x128) ![0, 0] S512x128.size inb_S512x128_S512x128_0_0).toLoadRect f = f :=
  Memref.readAt_unit_zero (Elt F) cc0_stg1_0 zero2 _ f
omit [FloatOps F] in
theorem read_ix (f : (cc0_stg2_0 : Ref sig .tc).ty.Contents (Elt F)) :
    (Memref.whole cc0_stg2_0 : Memref sig .tc .vmem S1024x1 .i32).view.readAt (Elt F) (Rect.unit (s := S1024x1) ![0, 0] S1024x1.size inb_S1024x1_S1024x1_0_0).toLoadRect f = f :=
  Memref.readAt_unit_zero (Elt F) cc0_stg2_0 zero2 _ f
omit [FloatOps F] in
theorem read_sw (f : (cc0_stg4_0 : Ref sig .tc).ty.Contents (Elt F)) :
    (Memref.whole cc0_stg4_0 : Memref sig .tc .vmem S512x1024 .f32).view.readAt (Elt F) (Rect.unit (s := S512x1024) ![0, 0] S512x1024.size inb_S512x1024_S512x1024_0_0).toLoadRect f = f :=
  Memref.readAt_unit_zero (Elt F) cc0_stg4_0 zero2 _ f
omit [FloatOps F] in
theorem write_sum (f w w' : SumVal F) (h : w = w') :
    ((sumM : Memref sig .tc .vmem S1024x1024 .bf16).access (Rect.unit (s := S1024x1024) ![0, 0] S1024x1024.size inb_S1024x1024_S1024x1024_0_0) : View sig .tc _ _ _).write (Elt F) f w Finset.univ = w' :=
  (Memref.write_access_unit_zero_univ (Elt F) cc0_scratch0 zero2 _ f w).trans h
omit [FloatOps F] in
theorem write_out (f w w' : (cc0_stg5_0 : Ref sig .tc).ty.Contents (Elt F)) (h : w = w') :
    ((Memref.whole cc0_stg5_0 : Memref sig .tc .vmem S32x1024 .f32).access (Rect.unit (s := S32x1024) ![0, 0] S32x1024.size inb_S32x1024_S32x1024_0_0) : View sig .tc _ _ _).write (Elt F) f w Finset.univ = w' :=
  (Memref.write_access_unit_zero_univ (Elt F) cc0_stg5_0 zero2 _ f w).trans h

section Obligation

variable (m : (ℓ : Loc nD τ sig) → Buf (Elt F) ℓ) (K : Dev nD × CI → ℕ)

/-- The pipeline's data: the arrays as launched, the staging buffers after the body, what the body starts from and leaves,
    and what a device owes before and after. -/
def dats (_ : Fin 1) (c : Dev nD) : Dat τ (Elt F) Unit ℕ UU ℕ cfg0 c where
  A w := V m c (Pipeline.arrRef spec0 w)
  after w _ := match w with
    | ⟨0, _⟩ => xIn m c
    | ⟨1, _⟩ => rwIn m c
    | ⟨2, _⟩ => ixIn m c
    | ⟨3, _⟩ => exIn m c
    | ⟨4, _⟩ => swIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer held whole at the contents `X`. -/
abbrev stg (c : Dev nD) (b : Ref sig .tc) (X : b.ty.Contents (Elt F)) : sProp 𝕄 := ((c : Thread nD τ).loc b) ↦{fullShare} X

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]
  have h1 : iprop(∃ f : Buf (Elt F) ((c : Thread nD τ).loc b), ⌜f = X⌝ ∗ (((c : Thread nD τ).loc b) ↦{fullShare} f)) ⊢ (stg c b X : sProp 𝕄) := by
    iintro ⟨%f, %hf, H⟩
    subst hf
    iexact H
  have h2 : (stg c b X : sProp 𝕄) ⊢ iprop(∃ f : Buf (Elt F) ((c : Thread nD τ).loc b), ⌜f = X⌝ ∗ (((c : Thread nD τ).loc b) ↦{fullShare} f)) := by
    iintro H
    iexists X
    isplitr; · (ipureintro; rfl)
    iexact H
  exact BI.equiv_iff.mp ⟨h1, h2⟩

/-- The staged inputs. -/
def inputs (c : Dev nD) : sProp 𝕄 :=
  iprop(stg c cc0_stg0_0 (xIn m c) ∗ stg c cc0_stg1_0 (rwIn m c) ∗ stg c cc0_stg2_0 (ixIn m c) ∗ stg c cc0_stg3_0 (exIn m c) ∗ stg c cc0_stg4_0 (swIn m c))

/-- What a device still owes, with whatever its waits have recorded. -/
def owing (c : Dev nD) (O : CellTallies nD τ sig Unit) : sProp 𝕄 := iprop(∃ W : Waits sig Unit, owes (c : Thread nD τ) O W)

set_option maxHeartbeats 1600000 in
/-- The body run from what the launch gives. -/
theorem sound_body (c : Dev nD) (fo : (cc0_stg5_0 : Ref sig .tc).ty.Contents (Elt F)) (Q : PUnit → sProp 𝕄) :
    iprop((records (sums m) K ∗ linear c ∗ creds c ∗ levAts L lv ∗ scratch c ∗ owing c (O₀ c) ∗ inputs m c ∗ stg c cc0_stg5_0 fo)
        ∗ ((Φ₁ c ∗ owing c 0 ∗ inputs m c ∗ stg c cc0_stg5_0 (outAt m c)) -∗ Q ⟨⟩))
      ⊢ Meets c (folded (Memref.whole cc0_stg0_0) (Memref.whole cc0_stg1_0) (Memref.whole cc0_stg2_0) (Memref.whole cc0_stg3_0)
          (Memref.whole cc0_stg4_0) (Memref.whole cc0_stg5_0) sumM (Memref.isWhole_whole _) inM (Memref.isWhole_whole _)
          cc0_scratch2 cc0_scratch3 cc0_scratch4 c) Q := by
  unfold folded linear payToks creds scratch owing inputs
  rw [bigSep_cells]
  iintro ⟨⟨#Hrec, ⟨⟨⟨HaB, HaA⟩, HaS, HaR⟩, ⟨HtB, HtA⟩, HtS, HtR⟩, ⟨HcB, HcA, HcR⟩, #Hlev, ⟨⟨%fs, Hsum⟩, ⟨%fr, Hin⟩⟩, HO, ⟨Hx, Hrw, Hix, Hex, Hsw⟩, Hout⟩, Hk⟩
  -- the entry handshake: each unit takes one of the device's slots along
  ihave Hcut := (in_cut c fr) $$ Hin
  icases Hcut with ⟨Hslots, Hin0⟩
  unfold O₀
  iapply (meets_shifts c Q (signalAt barrier0 c)
    (fun k => iprop(dutyTok ER (cell (before c k) (.inl false)) 0 k ∗ pay (sums m) (before c k) (.inl false) k)) (fun _ => iprop(emp))
    (fun l => along (sums m) K c ((dues (ackDue c) shifts + dues (recvDue c) shifts) + dues (barDue c) l)) _
    (signal_step (sums m) K c Q false barrier0 rfl (dues (ackDue c) shifts + dues (recvDue c) shifts))) $$ [HtB Hslots HO]
  · isplitl [HtB Hslots]
    · rw [bigSep_sep']
      isplitl [HtB]; · iexact HtB
      iapply (show (bigSep Finset.univ fun k : Fin 31 => (slotPts c k fr : sProp 𝕄)) ⊢ bigSep Finset.univ fun k : Fin 31 => pay (sums m) (before c k) (.inl false) k from
        bigSep_mono fun k _ => by
          show slotPts c k fr ⊢ iprop(∃ f : InVal F, slotPts (past (before c k) k) k f)
          rw [past_before]
          iintro H; iexists fr; iexact H)
      iexact Hslots
    unfold along
    isplitr; · iexact Hrec
    isplitr; · iexact Hlev
    iexact HO
  rw [dues_nil]
  unfold along
  iintro ⟨-, -, -, ⟨%W, HO⟩⟩
  -- its wait: every slot the device will copy into
  simp only [semWaitWord, Prog.lift, Prog.bind_op, Prog.bind_ret, Prog.pure_eq_ret]
  iapply (Rounds.wp_wait_rest_token 𝒱₀ ER (xRd (sums m)) (c : Thread nD τ) none (κ := K (c, .inl false))
      (wpE_semWait_eq 𝒱₀ (c : Thread nD τ) none Set.univ) (Set.mem_univ _) () (O := dues (ackDue c) shifts + dues (recvDue c) shifts) (W := W) (R := 0) (m := 0) (T := ∅)
      (by rw [Nat.zero_add]; exact (expect_count (sums m) c false).symm)) $$ [HcB HO HaB]
  · isplitr; · iapply (inv_at (sums m) K c (.inl false)); iexact Hrec
    isplitl [HcB]; · iexact HcB
    isplitl [HO]; · iexact HO
    isplitr; · iapply (mayWait_bar c); iexact Hlev
    iexact HaB
  iintro ⟨HO, HaB, -, Hpay⟩
  ihave Hdst := (show bigSep ((xRd (sums m)).duties ((c : Thread nD τ), SemLoc.reg barrier0) 0 \ ∅) (fun d => (xRd (sums m)).payload ((c : Thread nD τ), SemLoc.reg barrier0) 0 d)
      ⊢ bigSep Finset.univ fun k : Fin 31 => iprop(∃ f : InVal F, slotPts (past c k) k f) from Entails.of_eq (rest_bar (sums m) c)) $$ Hpay
  -- the loads and the partial result
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hrw; iintro Hrw
  iapply (wp_load 𝒱₀ (c : Thread nD τ) none Set.univ (m := Memref.whole cc0_stg2_0) (Finset.subset_univ _)) $$ Hix; iintro Hix
  rw [read_x, read_rw, read_ix]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ Hex; iintro Hex
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ Hex; iintro Hex
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ Hex; iintro Hex
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ Hex; iintro Hex
  rw [read_x]
  iapply (wp_load 𝒱₀ (c : Thread nD τ) none Set.univ (m := sumM) (Finset.subset_univ _)) $$ Hsum; iintro Hsum
  iapply (wp_store 𝒱₀ (c : Thread nD τ) none Set.univ (m := sumM)
    (r := Rect.unit (s := S1024x1024) ![0, 0] S1024x1024.size inb_S1024x1024_S1024x1024_0_0) (Mk := Finset.univ) (Finset.subset_univ _)) $$ Hsum; iintro Hsum
  rw [write_sum _ _ (sums m c)]
  swap; · rfl
  ihave Hcut := (sum_cut c (sums m c)).1 $$ Hsum
  icases Hcut with ⟨Hrows, Hown⟩
  -- the copies
  iapply (meets_shifts c Q (copyAt sumM (Memref.isWhole_whole _) inM (Memref.isWhole_whole _) cc0_scratch2 cc0_scratch3 c)
    (fun k => iprop(rowPts c k (sums m c) ∗ (∃ f : InVal F, slotPts (past c k) k f) ∗ dutyTok ER (sendCell c k) 0 0
          ∗ dutyTok ER (recvCell (past c k) k) 0 0)) (fun k => cred (tallyAt (sendCell c k) () N))
    (fun l => along (sums m) K c (dues (ackDue c) shifts + dues (recvDue c) l)) _
    (copy_step (sums m) K c Q (dues (ackDue c) shifts))) $$ [Hrows Hdst HtS HtR HO]
  · isplitl [Hrows Hdst HtS HtR]
    · rw [bigSep_sep', bigSep_sep', bigSep_sep']
      isplitl [Hrows]; · iexact Hrows
      isplitl [Hdst]; · iexact Hdst
      isplitl [HtS]; · iexact HtS
      iexact HtR
    unfold along
    isplitr; · iexact Hrec
    isplitr; · iexact Hlev
    iexists _; iexact HO
  rw [dues_nil]
  iintro ⟨HcS, Hal⟩
  simp only [Prog.lift, Prog.bind_op, Prog.bind_ret, Prog.pure_eq_ret]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg4_0) (Finset.subset_univ _)) $$ Hsw; iintro Hsw
  rw [read_sw]
  -- what the other devices send
  iapply (meets_shifts c Q (arriveAt sumM (Memref.isWhole_whole _) inM (Memref.isWhole_whole _) cc0_scratch3 c)
    (fun k => iprop(atPos ER (recvCell c k) 0 ∅ 0 ∗ cred (tallyAt (recvCell c k) () N)))
    (fun k => iprop(slotPts c k (gather (sums m) c) ∗ atPos ER (recvCell c k) 1 ∅ 0))
    (fun _ => along (sums m) K c (dues (ackDue c) shifts)) _
    (fun k _ p => arrive_step (sums m) K c Q (dues (ackDue c) shifts) rfl k p)) $$ [HaR HcR Hal]
  · isplitl [HaR HcR]
    · rw [bigSep_sep']
      isplitl [HaR]; · iexact HaR
      iexact HcR
    iexact Hal
  rw [bigSep_sep', slots_join]
  iintro ⟨⟨Hgot, HaR⟩, Hal⟩
  -- the block of the result
  simp only [Prog.lift, Prog.bind_op, Prog.bind_ret, Prog.pure_eq_ret]
  iapply (wp_load_rect 𝒱₀ (c : Thread nD τ) none Set.univ (m := inM)
    (r := Rect.unit (s := S32x32x1024) ![1, 0, 0] S31x32x1024.size inb_S32x32x1024_S31x32x1024_1_0_0) filled_slots) $$ Hgot; iintro Hgot
  iapply (wp_load_rect 𝒱₀ (c : Thread nD τ) none Set.univ (m := sumM)
    (r := Rect.unit (s := S1024x1024) (k0_off3 c) S32x1024.size (k0_off3_inb c)) (own_kept c)) $$ Hown; iintro Hown
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S32x1024) ![0, 0] S32x1024.size inb_S32x1024_S32x1024_0_0) (Mk := Finset.univ) (Finset.subset_univ _)) $$ Hout; iintro Hout
  rw [write_out _ _ (outAt m c)]
  swap; · rfl
  -- the copies have left
  iapply (meets_shifts c Q (leaveAt sumM (Memref.isWhole_whole _) inM (Memref.isWhole_whole _) cc0_scratch2 c)
    (fun k => iprop(atPos ER (sendCell c k) 0 ∅ 0 ∗ cred (tallyAt (sendCell c k) () N)))
    (fun k => iprop(rowPts c k (sums m c) ∗ atPos ER (sendCell c k) 1 ∅ 0))
    (fun _ => along (sums m) K c (dues (ackDue c) shifts)) _
    (fun k _ p => leave_step (sums m) K c Q (dues (ackDue c) shifts) rfl k p)) $$ [HaS HcS Hal]
  · isplitl [HaS HcS]
    · rw [bigSep_sep']
      isplitl [HaS]; · iexact HaS
      iexact HcS
    iexact Hal
  rw [bigSep_sep']
  iintro ⟨⟨Hrows, HaS⟩, Hal⟩
  -- the closing handshake
  rw [show dues (ackDue c) shifts = 0 + dues (ackDue c) shifts from (zero_add _).symm]
  iapply (meets_shifts c Q (signalAt cc0_scratch4.sem c)
    (fun k => iprop(dutyTok ER (cell (before c k) (.inl true)) 0 k ∗ pay (sums m) (before c k) (.inl true) k)) (fun _ => iprop(emp))
    (fun l => along (sums m) K c (0 + dues (ackDue c) l)) _
    (signal_step (sums m) K c Q true cc0_scratch4.sem rfl 0)) $$ [HtA Hal]
  · isplitl [HtA]
    · rw [bigSep_sep']
      isplitl [HtA]; · iexact HtA
      iapply (show (emp : sProp 𝕄) ⊢ bigSep Finset.univ fun k : Fin 31 => pay (sums m) (before c k) (.inl true) k from
        Entails.of_eq (BI.bigSep_emp_const _).symm)
      iempintro
    iexact Hal
  rw [dues_nil]
  unfold along
  iintro ⟨-, -, -, ⟨%W', HO⟩⟩
  simp only [semWaitWord, Prog.lift, Prog.bind_op, Prog.bind_ret, Prog.pure_eq_ret]
  iapply (Rounds.wp_wait_rest_token 𝒱₀ ER (xRd (sums m)) (c : Thread nD τ) none (κ := K (c, .inl true))
      (wpE_semWait_eq 𝒱₀ (c : Thread nD τ) none Set.univ) (Set.mem_univ _) () (O := 0) (W := W') (R := 0) (m := 0) (T := ∅)
      (by rw [Nat.zero_add]; exact (expect_count (sums m) c true).symm)) $$ [HcA HO HaA]
  · isplitr; · iapply (inv_at (sums m) K c (.inl true)); iexact Hrec
    isplitl [HcA]; · iexact HcA
    isplitl [HO]; · iexact HO
    isplitr; · rw [MayWait_zero]; iempintro
    iexact HaA
  iintro ⟨HO, HaA, -, -⟩
  -- every cell closes
  imod (Rounds.cells_close ER (xRd (sums m)) (Finset.univ : Finset CI) (cell c) (fun i => K (c, i)) (fun i _ => Set.mem_univ _) (fun _ _ h => h)
    (fun _ => 1) (fun i _ => duties_later (sums m) (cell c i))) $$ [HaB HaA HaS HaR] with Hz
  · rw [bigSep_sep']
    isplitr
    · iapply (all_inv (sums m) K c); iexact Hrec
    rw [bigSep_cells]
    isplitl [HaB HaA]
    · isplitl [HaB]; · iexact HaB
      iexact HaA
    isplitl [HaS]; · iexact HaS
    iexact HaR
  rw [wp_ret]; imodintro
  iapply Hk
  unfold Φ₁ scratch
  isplitl [Hrows Hown Hgot Hin0 Hz]
  · isplitl [Hrows Hown Hgot Hin0]
    · isplitl [Hrows Hown]
      · iexists (sums m c)
        iapply (sum_cut c (sums m c)).2
        isplitl [Hrows]; · iexact Hrows
        iexact Hown
      · iexists (slotsSet.piecewise (gather (sums m) c) fr)
        iapply (pointsTo_join_subset (Finset.subset_univ slotsSet))
        isplitl [Hgot]; · iexact Hgot
        iexact Hin0
    iexact Hz
  isplitl [HO]; · iexists _; iexact HO
  isplitl [Hx Hrw Hix Hex Hsw]
  · isplitl [Hx]; · iexact Hx
    isplitl [Hrw]; · iexact Hrw
    isplitl [Hix]; · iexact Hix
    isplitl [Hex]; · iexact Hex
    iexact Hsw
  iexact Hout

end Obligation

end Cert.KernelIdeal.Moe
-- ==== Proof.KernelIdeal.Obligation.lean ====
/-
# The pipeline's obligation

The body at the pipeline's one point, from its staging buffers as fetched to what they hold after.
-/
module

public import proofs.«01_k».proof.Proof.KernelIdeal.Body

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Obligation

variable (m : (ℓ : Loc nD τ sig) → Buf (Elt F) ℓ)

/-- What the body starts from at the pipeline's one point. -/
def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ ∃ d, stg c cc0_stg5_0 ((dats m 0 c).before (5 : Fin 6) t0_0 d))

/-- A fetched window's staging buffer holds the window's block. -/
theorem before_fetched (c : Dev nD) (w : Fin cfg0.W) (hw : (cfg0.win w).fetch t0_0 = true) (d) : (dats m 0 c).before w t0_0 d = (dats m 0 c).fetched w t0_0 d := by
  unfold Dat.before; rw [if_pos hw]

/-- The body at the point is the printed one on the buffers. -/
theorem body_at : defs₀ (F := F) .tc 0 (t0_0, cfg0.slots t0_0)
    = cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 := rfl

set_option maxRecDepth 4000 in
/-- The pipeline's obligation of the body, on every device. -/
theorem body_obligation (c : Dev nD) : BodyObligation (dats (F := F) m 0 c) (defs₀ (F := F)) 𝒱₀ () Set.univ := fun t => by
  rw [fin_N0 t]
  rw [bigSep_W0, bigSep_W0]
  simp only [owns_stg]
  refine BIBase.Entails.trans (Q := bodyPre m c) BIBase.Entails.rfl ?_
  rw [body_at]
  rw [show (dats m 0 c).Φ t0_0.succ = Φ₁ c from rfl, show (dats m 0 c).after 0 t0_0 = xIn m c from rfl, show (dats m 0 c).after 1 t0_0 = rwIn m c from rfl,
    show (dats m 0 c).after 2 t0_0 = ixIn m c from rfl, show (dats m 0 c).after 3 t0_0 = exIn m c from rfl,
    show (dats m 0 c).after 4 t0_0 = swIn m c from rfl, show (dats m 0 c).after 5 t0_0 = outAt m c from rfl]
  rw [body_eq, wp_deviceId]
  unfold bodyPre Φ₀ start
  iintro ⟨⟨⟨⟨%K, Hrec, Hlin⟩, Hcr, Hlev⟩, Hscr⟩, Ho, ⟨%d0, H0⟩, ⟨%d1, H1⟩, ⟨%d2, H2⟩, ⟨%d3, H3⟩, ⟨%d4, H4⟩, ⟨%d5, H5⟩⟩
  rw [before_fetched m c 0 (fetch0_0 _), before_fetched m c 1 (fetch0_1 _), before_fetched m c 2 (fetch0_2 _), before_fetched m c 3 (fetch0_3 _),
    before_fetched m c 4 (fetch0_4 _)]
  unfold Dat.owesAt Pipeline.owesWithin
  icases Ho with ⟨%W, %hW, HO⟩
  rw [show (dats m 0 c).owed t0_0.castSucc = O₀ c from rfl]
  iapply (sound_body m K c ((dats m 0 c).before (5 : Fin 6) t0_0 d5) _)
  isplitr []
  · isplitl [Hrec]; · iexact Hrec
    isplitl [Hlin]; · iexact Hlin
    isplitl [Hcr]; · iexact Hcr
    isplitl [Hlev]; · iexact Hlev
    isplitl [Hscr]; · iexact Hscr
    isplitl [HO]; · unfold owing; iexists W; iexact HO
    isplitr [H5]
    · unfold inputs
      isplitl [H0]; · iexact H0
      isplitl [H1]; · iexact H1
      isplitl [H2]; · iexact H2
      isplitl [H3]; · iexact H3
      iexact H4
    iexact H5
  · unfold inputs owing
    rw [show (dats m 0 c).owed t0_0.succ = 0 from rfl]
    iintro ⟨HΦ, ⟨%W', HO⟩, ⟨H0, H1, H2, H3, H4⟩, H5⟩
    isplitl [HΦ]; · iexact HΦ
    isplitl [HO]
    · iexists W'
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    iexact H5

end Obligation

end Cert.KernelIdeal.Moe
-- ==== Proof.KernelIdeal.Deal.lean ====
/-
# Dealing the exchange's resources

The cells' ghost state is minted device by device, each device's tokens on its own cells. The tokens then go around the
ring to the devices that pay with them, and the launch's credit comes apart into each device's.
-/
module

public import proofs.«01_k».proof.Proof.KernelIdeal.Obligation

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores of the kernel's own -/

/-- The kernel's own cells: all but the barrier's. -/
abbrev OI : Type := Unit ⊕ (Bool × Fin 31)
/-- Each among all the cells. -/
def ownAt : OI → CI
  | .inl _ => .inl true
  | .inr p => .inr p
/-- Its semaphore. -/
def osem (i : OI) : SemLoc sig := csem (ownAt i)

/-- The kernel's own semaphores are scoped, apart, and none of the pipeline's. -/
theorem ownSemFacts : Pipeline.OwnSemFacts cfg0.spec osem where
  isScoped := by decide +kernel
  inj := fun i j h => by
    have e : some (ownAt i) = some (ownAt j) := by rw [← kind_csem, ← kind_csem]; exact congrArg kind h
    have e := Option.some.inj e
    rcases i with _ | p <;> rcases j with _ | q
    · rfl
    · exact absurd e (by unfold ownAt; exact Sum.inl_ne_inr)
    · exact absurd e (by unfold ownAt; exact Sum.inr_ne_inl)
    · exact congrArg Sum.inr (Sum.inr.inj e)
  disj := by decide +kernel

omit [FloatOps F] in
/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barrier0] (by decide +kernel) (by decide)]; rfl

omit [FloatOps F] in
/-- All counters of a device's cells at zero: the kernel's own and the barrier's. -/
theorem sems0_eq (c : Dev nD) :
    (bigSep Finset.univ fun i : CI => semVal (cell c i) 0 : sProp 𝕄)
      = iprop(Pipeline.ownSems0 (Ix := Unit) (Name := ℕ) (U := UU) (Lvl := ℕ) (Val := Elt F) (τ := τ) osem c ∗ unscopedSems0 c) := by
  unfold Pipeline.ownSems0
  rw [unscopedSems0_eq, bigSep_cells, bigSep_univ_sum, bigSep_univ_prod, bigSep_univ_eq_bigSepL [false, true] (by decide) (by decide),
    bigSep_univ_eq_bigSepL [()] (by decide) (by decide)]
  refine BI.equiv_iff.mp ⟨?_, ?_⟩
  · show iprop((semVal (barCell c) 0 ∗ semVal (ackCell c) 0) ∗ (bigSep Finset.univ fun k : Fin 31 => semVal (sendCell c k) 0) ∗ bigSep Finset.univ fun k : Fin 31 => semVal (recvCell c k) 0)
      ⊢ (iprop((semVal (ackCell c) 0 ∗ (bigSep Finset.univ fun k : Fin 31 => semVal (sendCell c k) 0) ∗ bigSep Finset.univ fun k : Fin 31 => semVal (recvCell c k) 0) ∗ semVal (barCell c) 0) : sProp 𝕄)
    iintro ⟨⟨HB, HA⟩, HS, HR⟩
    isplitr [HB]
    · isplitl [HA]; · iexact HA
      isplitl [HS]; · iexact HS
      iexact HR
    iexact HB
  · show (iprop((semVal (ackCell c) 0 ∗ (bigSep Finset.univ fun k : Fin 31 => semVal (sendCell c k) 0) ∗ bigSep Finset.univ fun k : Fin 31 => semVal (recvCell c k) 0) ∗ semVal (barCell c) 0) : sProp 𝕄)
      ⊢ iprop((semVal (barCell c) 0 ∗ semVal (ackCell c) 0) ∗ (bigSep Finset.univ fun k : Fin 31 => semVal (sendCell c k) 0) ∗ bigSep Finset.univ fun k : Fin 31 => semVal (recvCell c k) 0)
    iintro ⟨⟨HA, HS, HR⟩, HB⟩
    isplitl [HB HA]
    · isplitl [HB]; · iexact HB
      iexact HA
    isplitl [HS]; · iexact HS
    iexact HR

/-! ## Minting -/

/-- The tokens of a device's own cells: per shift one on each counted cell and one on each copy's. -/
abbrev TI : Type := (Bool × Fin 31) ⊕ (Bool × Fin 31)
/-- A token's cell and duty. -/
def tok : TI → CI × Fin 31
  | .inl p => (.inl p.1, p.2)
  | .inr p => (.inr p, 0)
/-- Different tokens are of different duties. -/
theorem tok_inj : Function.Injective tok := by
  rintro (⟨b, k⟩ | p) (⟨b', k'⟩ | p') h
  · have h1 := Sum.inl.inj (congrArg Prod.fst h)
    have h2 : k = k' := congrArg Prod.snd h
    have h1 : b = b' := h1
    rw [h1, h2]
  · exact absurd (congrArg Prod.fst h) Sum.inl_ne_inr
  · exact absurd (congrArg Prod.fst h) Sum.inr_ne_inl
  · exact congrArg Sum.inr (Sum.inr.inj (congrArg Prod.fst h))
/-- A device's token, by cell, round and duty. -/
abbrev tokOf (cj : Dev nD × TI) : GSem nD τ sig × ℕ × Fin 31 := (cell cj.1 (tok cj.2).1, 0, (tok cj.2).2)
theorem tokOf_inj : Function.Injective tokOf := by
  rintro ⟨c, j⟩ ⟨c', j'⟩ h
  have h1 := cell_inj (a₁ := (c, (tok j).1)) (a₂ := (c', (tok j').1)) (congrArg Prod.fst h)
  have h2 : (tok j).2 = (tok j').2 := congrArg (fun x : GSem nD τ sig × ℕ × Fin 31 => x.2.2) h
  have h3 : j = j' := tok_inj (Prod.ext (congrArg Prod.snd h1) h2)
  have h4 : c = c' := congrArg Prod.fst h1
  rw [h3, h4]

/-- All cells, -/
def exCells : Finset (GSem nD τ sig) := Finset.univ.map ⟨fun ci : Dev nD × CI => cell ci.1 ci.2, cell_inj⟩
/-- and all tokens. -/
def exToks : Finset (GSem nD τ sig × ℕ × Fin 31) := Finset.univ.map ⟨tokOf, tokOf_inj⟩
/-- The launch's ghost state. -/
def u₀ : UU := (initOf (Pipeline.cells cfgs cellOf_inj) (Pipeline.launchToks cfgs cellOf_inj), initOf exCells exToks)

/-- The tokens on device `c`'s own cells. -/
def toks (c : Dev nD) : sProp 𝕄 := bigSep Finset.univ fun j : TI => dutyTok ER (cell c (tok j).1) 0 (tok j).2

/-- What is minted for device `c`. -/
def G (c : Dev nD) : sProp 𝕄 :=
  iprop((bigSep Finset.univ fun i : CI => roundState ER (xRd (sums m)) (cell c i) 0)
    ∗ ((bigSep Finset.univ fun i : CI => atPos ER (cell c i) 0 ∅ 0) ∗ bigSep Finset.univ fun i : CI => reached ER (cell c i) 0) ∗ toks c)
/-- What it starts from once everything is dealt. -/
def G' (c : Dev nD) : sProp 𝕄 := iprop(∃ K, records (sums m) K ∗ linear c)

/-- The minting. -/
theorem mint : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun i : CI => Φ (cell c i) := by
    unfold exCells; rw [bigSep_map, bigSep_univ_prod]; rfl
  have hT : bigSep exToks (fun x => (dutyTok ER x.1 x.2.1 x.2.2 : sProp 𝕄)) = bigSep Finset.univ fun c : Dev nD => toks c := by
    unfold exToks toks; rw [bigSep_map, bigSep_univ_prod]; rfl
  iintro HX
  imod (Rounds.fund ER (xRd (sums m)) exCells exToks) $$ HX with ⟨Hst, Hr, Hat, Htok⟩
  imodintro
  ihave Hst' := (Entails.of_eq (hX fun g => roundState ER (xRd (sums m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat' Hr']
  · isplitl [Hat']; · iexact Hat'
    iexact Hr'
  iexact Htok'

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (xRd (sums m)) κ (cell c i)))
          ∗ ((bigSep Finset.univ fun i : CI => atPos ER (cell c i) 0 ∅ 0) ∗ bigSep Finset.univ fun i : CI => reached ER (cell c i) 0) ∗ toks c) := by
  unfold G
  iintro ⟨Hos, Hus, Hst, Hat, Htok⟩
  ihave Hv := (Entails.of_eq (sems0_eq (F := F) c).symm) $$ [Hos Hus]
  · isplitl [Hos]; · iexact Hos
    iexact Hus
  imod (show iprop((bigSep Finset.univ fun i : CI => semVal (cell c i) 0) ∗ bigSep Finset.univ fun i : CI => roundState ER (xRd (sums m)) (cell c i) 0)
      ⊢ (|={Set.univ}=> bigSep Finset.univ fun i : CI => iprop(∃ κ : ℕ, cellInv ER (xRd (sums m)) κ (cell c i)) : sProp 𝕄) from by
        rw [← bigSep_sep']
        exact (bigSep_mono fun i _ => (Rounds.body_intro ER (xRd (sums m)) (cell c i)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## Around the ring -/

/-- One shift back, as a permutation of the devices. -/
def back (k : Fin 31) : Dev nD ≃ Dev nD := ⟨fun c => before c k, fun c => past c k, fun c => past_before c k, fun c => before_past c k⟩

omit [FloatOps F] in
/-- What every device has per shift, dealt by a permutation per shift. -/
theorem around (p : Fin 31 → Dev nD ≃ Dev nD) (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (p k c) k := by
  rw [BI.bigSep_univ_comm, BI.bigSep_univ_comm (fun c k => Φ (p k c) k)]
  exact bigSep_congr fun k _ => BI.bigSep_univ_equiv (p k) fun c => Φ c k

omit [FloatOps F] in
/-- A device's tokens one kind after the other. -/
theorem toks_eq (c : Dev nD) :
    (toks c : sProp 𝕄) = iprop(((bigSep Finset.univ fun k : Fin 31 => dutyTok ER (barCell c) 0 k) ∗ bigSep Finset.univ fun k : Fin 31 => dutyTok ER (ackCell c) 0 k)
      ∗ (bigSep Finset.univ fun k : Fin 31 => dutyTok ER (sendCell c k) 0 0) ∗ bigSep Finset.univ fun k : Fin 31 => dutyTok ER (recvCell c k) 0 0) := by
  unfold toks
  rw [bigSep_univ_sum, bigSep_univ_prod, bigSep_univ_prod, bigSep_univ_eq_bigSepL [false, true] (by decide) (by decide),
    bigSep_univ_eq_bigSepL [false, true] (by decide) (by decide)]
  rfl

omit [FloatOps F] in
/-- The tokens go to the devices that pay with them. -/
theorem toks_around : (bigSep Finset.univ fun c : Dev nD => (toks c : sProp 𝕄)) = bigSep Finset.univ fun c : Dev nD => payToks c := by
  unfold payToks
  rw [bigSep_congr fun c _ => toks_eq (F := F) c]
  simp only [bigSep_sep']
  rw [around back fun c k => dutyTok ER (barCell c) 0 k, around back fun c k => dutyTok ER (ackCell c) 0 k,
    around (fun k => (back k).symm) fun c k => dutyTok ER (recvCell c k) 0 0]
  rfl

/-- Everything minted, dealt. -/
theorem regroup :
    (bigSep Finset.univ fun c : Dev nD => iprop((bigSep Finset.univ fun i : CI => iprop(∃ κ : ℕ, cellInv ER (xRd (sums m)) κ (cell c i)))
          ∗ ((bigSep Finset.univ fun i : CI => atPos ER (cell c i) 0 ∅ 0) ∗ bigSep Finset.univ fun i : CI => reached ER (cell c i) 0) ∗ toks c) : sProp 𝕄)
      ⊢ bigSep Finset.univ (G' m) := by
  rw [bigSep_sep', bigSep_sep', bigSep_sep', ← bigSep_univ_prod (fun ci : Dev nD × CI => iprop(∃ κ : ℕ, cellInv ER (xRd (sums m)) κ (cell ci.1 ci.2))),
    ← bigSep_univ_prod (fun ci : Dev nD × CI => (reached ER (cell ci.1 ci.2) 0 : sProp 𝕄)), toks_around]
  iintro ⟨HI, ⟨Hat, #HR⟩, Htok⟩
  ihave HK := (BI.bigSep_exists_pi Finset.univ (fun (ci : Dev nD × CI) (κ : ℕ) => (cellInv ER (xRd (sums m)) κ (cell ci.1 ci.2) : sProp 𝕄))) $$ HI
  icases HK with ⟨%K, #HI⟩
  iapply (bigSep_with_persistent (R := records (sums m) K) (Φ := fun c => linear c) (Ψ := G' m) fun c _ => by
    unfold G'
    iintro H
    iexists K
    iexact H)
  isplitr
  · unfold records
    isplitl; · iexact HI
    iexact HR
  · unfold linear
    rw [bigSep_sep']
    isplitl [Hat]; · iexact Hat
    iexact Htok

/-- The step over all devices at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

omit [FloatOps F] in
/-- Units of credit on one cell add up. -/
theorem units (g : GSem nD τ sig) : (bigSep Finset.univ fun _ : Fin 31 => (cred (tallyAt g () 1) : sProp 𝕄)) ⊢ cred (tallyAt g () 31) := by
  rw [← Pipeline.cred_finsetSum]
  refine Entails.of_eq (congrArg cred ?_)
  have h : ∀ n : ℕ, n • (tallyAt g () 1 : CellTallies nD τ sig Unit) = tallyAt g () n := by
    intro n
    induction n with
    | zero => rw [zero_nsmul, tallyAt_zero]
    | succ n ih => rw [succ_nsmul, ih, ← tallyAt_add]
  rw [Finset.sum_const, Finset.card_univ, Fintype.card_fin]
  exact h 31

omit [FloatOps F] in
/-- The launch's credit on a device: thirty-one units on each counted cell, a block's on each receive cell. -/
theorem creds_intro (c : Dev nD) : (Pipeline.launchCred O₀ c : sProp 𝕄) ⊢ creds c := by
  have e : (O₀ : Dev nD → CellTallies nD τ sig Unit) = fun d => ((∑ k, ackDue d k) + ∑ k, recvDue d k) + ∑ k, barDue d k :=
    funext fun d => by unfold O₀; rw [dues_shifts, dues_shifts, dues_shifts]
  rw [e, Pipeline.launchCred_add, Pipeline.launchCred_add, Pipeline.launchCred_sum Finset.univ (fun k d => ackDue d k),
    Pipeline.launchCred_sum Finset.univ (fun k d => recvDue d k), Pipeline.launchCred_sum Finset.univ (fun k d => barDue d k)]
  unfold creds
  iintro ⟨⟨HA, HR⟩, HB⟩
  isplitl [HB]
  · iapply (units (F := F) (barCell c))
    iapply (show (bigSep Finset.univ fun k : Fin 31 => (Pipeline.launchCred (fun d => barDue d k) c : sProp 𝕄)) ⊢ bigSep Finset.univ fun _ : Fin 31 => cred (tallyAt (barCell c) () 1) from
      bigSep_mono fun k _ => Pipeline.launchCred_tallyAt (csem (.inl false)) (fun d => before d k) (fun d => past d k) (fun d => before_past d k) (fun d => past_before d k) () 1 c)
    iexact HB
  isplitl [HA]
  · iapply (units (F := F) (ackCell c))
    iapply (show (bigSep Finset.univ fun k : Fin 31 => (Pipeline.launchCred (fun d => ackDue d k) c : sProp 𝕄)) ⊢ bigSep Finset.univ fun _ : Fin 31 => cred (tallyAt (ackCell c) () 1) from
      bigSep_mono fun k _ => Pipeline.launchCred_tallyAt (csem (.inl true)) (fun d => before d k) (fun d => past d k) (fun d => before_past d k) (fun d => past_before d k) () 1 c)
    iexact HA
  iapply (show (bigSep Finset.univ fun k : Fin 31 => (Pipeline.launchCred (fun d => recvDue d k) c : sProp 𝕄)) ⊢ bigSep Finset.univ fun k : Fin 31 => cred (tallyAt (recvCell c k) () N) from
    bigSep_mono fun k _ => Pipeline.launchCred_tallyAt (csem (.inr (true, k))) (fun d => past d k) (fun d => before d k) (fun d => past_before d k) (fun d => before_past d k) () N c)
  iexact HR

end Cert.KernelIdeal.Moe
-- ==== Proof.KernelIdeal.Run.lean ====
/-
# The run

The whole program from any memory, all counters at zero: it ends, every array holds what the pipeline computes of it, and
every counter is back at zero.
-/
module

public import Idealize.ShloMosaic.Lib.Pipeline.CollectiveSegs
public import proofs.«01_k».proof.Proof.KernelIdeal.Deal

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch gives a device what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- With the scratch buffers that is the invariant before the point, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- and the invariant after it gives the counters and the scratch buffers back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems0_eq]
  iintro ⟨Hr, Hos, Hus⟩
  isplitl [Hus]; · iexact Hus
  isplitl [Hos]; · iexact Hos
  iexact Hr

omit [FloatOps F] in
/-- Every window's array is held whole. -/
theorem share_eq [FloatOps F] (c : Dev nD) (w : Fin cfg0.W) : (dats m 0 c).share w = fullShare := by unfold Dat.share; split <;> rfl

/-- The pipeline's own waits are below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m 0 c).arrAt w cfg0.N

/-- Every array holds that. -/
def QC : PUnit × MemSt nD τ sig (Elt F) → Prop := fun r =>
  ∀ c : Dev nD, ∀ w : Fin cfg0.W, r.2.mem ((cfg0.win w).arr.view.loc (c : Thread nD τ)) = finalA m c w

set_option maxRecDepth 200000 in
/-- The run. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input's array holds what it held. -/
theorem finalA_in (c : Dev nD) (w : Fin cfg0.W) (hw : (cfg0.win w).isOut = false) : finalA m c w = V m c (Pipeline.arrRef spec0 w) :=
  (dats m 0 c).arrAt_in w hw _

/-- The run with the inputs kept and every counter at zero. -/
theorem kept : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c 0).trans (finalA_in m c 0 rfl)), ((h.1 c 1).trans (finalA_in m c 1 rfl)),
    ((h.1 c 2).trans (finalA_in m c 2 rfl)), ((h.1 c 3).trans (finalA_in m c 3 rfl)), ((h.1 c 4).trans (finalA_in m c 4 rfl))⟩, h.2⟩) (run_main m ρ)

end Cert.KernelIdeal.Moe
-- ==== Proof.Reference.Kept.lean ====
/-
# The reference's run keeps its arguments

The reference is host code alone: it has no semaphore, and its generated run already says that its arguments keep their contents.
-/
module

public import proofs.«01_k».proof.Proof.Gen.ReferenceIdeal.Run
public import Idealize.ShloMosaic.Lib.Pipeline.Quiescent

@[expose] public section

noncomputable section

namespace Cert.ReferenceIdeal.Moe

open Cert.ReferenceIdeal Cert.ReferenceIdeal.Gen
open Idealize.ShloMosaic Idealize.ShloMosaic.TcCoe Idealize.SL.Sem

variable {F : FTy → Type} [FloatOps F]

/-- There is no semaphore at all. -/
theorem no_sem (sm : SemLoc sig) : False := by
  cases sm with
  | reg s => exact s.elim0
  | dma s => exact s.elim0

/-- The reference ends, its arguments unchanged and (having none) every counter at zero. -/
theorem kept (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => (h c).2, funext fun x => (no_sem x.2).elim⟩) (Value.run m ρ)

end Cert.ReferenceIdeal.Moe
-- ==== Proof.Value.Router.lean ====
/-
# One row's router, over the extended reals

A row has 128 scores. Here: the probability it gives an expert, that it is a real number not below zero when every
score is a real number, and that such a number may be drawn out of a sum of products.
-/
module

public import Idealize.ShloMosaic.Lib.Pointwise

@[expose] public section

noncomputable section

namespace Cert.Moe

open Idealize.ShloMosaic

/-- The largest of a row's scores. -/
def top (s : Fin 128 → EReal) : EReal := Finset.univ.fold max ⊥ s
/-- An expert's weight before the weights are made to sum to one. -/
def weight (s : Fin 128 → EReal) (e : Fin 128) : EReal := Ideal.exp (s e - top s)
/-- The sum of the weights. -/
def total (s : Fin 128 → EReal) : EReal := ∑ e, weight s e
/-- The probability the row gives expert `e`. -/
def prob (s : Fin 128 → EReal) (e : Fin 128) : EReal := Ideal.div (weight s e) (total s)

/-- The extended real is a real number. -/
def IsReal (a : EReal) : Prop := ∃ r : ℝ, a = r

/-- What is neither infinity is a real number. -/
theorem isReal_of_ne {a : EReal} (h1 : a ≠ ⊤) (h2 : a ≠ ⊥) : IsReal a := ⟨a.toReal, (EReal.coe_toReal h1 h2).symm⟩

/-- A product of real numbers is one. -/
theorem IsReal.mul {a b : EReal} : IsReal a → IsReal b → IsReal (a * b) := by
  rintro ⟨r, rfl⟩ ⟨s, rfl⟩
  exact ⟨r * s, (EReal.coe_mul r s).symm⟩

/-- A sum of real numbers is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of real numbers is one. -/
theorem IsReal.sum {ι : Type*} (s : Finset ι) (f : ι → EReal) (h : ∀ i, IsReal (f i)) : IsReal (∑ i ∈ s, f i) := by
  choose g hg using h
  exact ⟨∑ i ∈ s, g i, by simp only [hg]; exact sum_coe s g⟩

/-- The largest of 128 real numbers is one. -/
theorem top_real (s : Fin 128 → EReal) (hs : ∀ e, IsReal (s e)) : IsReal (top s) := by
  refine isReal_of_ne (ne_of_lt ?_) (ne_of_gt ?_)
  · refine (Finset.fold_max_lt _).2 ⟨bot_lt_top, fun e _ => ?_⟩
    obtain ⟨r, hr⟩ := hs e
    rw [hr]; exact EReal.coe_lt_top r
  · refine (Finset.lt_fold_max _).2 (Or.inr ⟨0, Finset.mem_univ _, ?_⟩)
    obtain ⟨r, hr⟩ := hs 0
    rw [hr]; exact EReal.bot_lt_coe r

/-- A row of real scores gives every expert a weight that is a positive real number. -/
theorem weight_pos (s : Fin 128 → EReal) (hs : ∀ e, IsReal (s e)) (e : Fin 128) : ∃ r : ℝ, 0 < r ∧ weight s e = r := by
  obtain ⟨a, ha⟩ := hs e
  obtain ⟨b, hb⟩ := top_real s hs
  refine ⟨Real.exp (a - b), Real.exp_pos _, ?_⟩
  unfold weight
  rw [ha, hb, ← EReal.coe_sub]
  rfl

/-- So the sum of the weights is a positive real number, -/
theorem total_pos (s : Fin 128 → EReal) (hs : ∀ e, IsReal (s e)) : ∃ r : ℝ, 0 < r ∧ total s = r := by
  choose g hg using weight_pos s hs
  refine ⟨∑ e, g e, Finset.sum_pos (fun e _ => (hg e).1) ⟨0, Finset.mem_univ _⟩, ?_⟩
  unfold total
  simp only [fun e => (hg e).2]
  exact sum_coe _ g

/-- and the probability a real number not below zero. -/
theorem prob_real (s : Fin 128 → EReal) (hs : ∀ e, IsReal (s e)) (e : Fin 128) : 0 ≤ prob s e ∧ prob s e ≠ ⊤ := by
  obtain ⟨a, ha, ha'⟩ := weight_pos s hs e
  obtain ⟨b, hb, hb'⟩ := total_pos s hs
  have h : prob s e = ((a * b⁻¹ : ℝ) : EReal) := by
    unfold prob Ideal.div
    rw [ha', hb', if_neg (by exact_mod_cast hb.ne'), EReal.coe_mul, EReal.coe_inv]
  rw [h]
  exact ⟨by exact_mod_cast (mul_pos ha (inv_pos.2 hb)).le, EReal.coe_ne_top _⟩

/-- A real factor not below zero may be drawn out of a sum, whatever the terms are. -/
theorem mul_sum_of_nonneg {ι : Type*} (s : Finset ι) (f : ι → EReal) {p : EReal} (h0 : 0 ≤ p) (ht : p ≠ ⊤) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 ht, ih]

/-- A row scaled by a probability before the product with an expert's weights gives the scaled product. -/
theorem scaled_product {ι : Type*} (s : Finset ι) (x w : ι → EReal) {p : EReal} (h0 : 0 ≤ p) (ht : p ≠ ⊤) :
    ∑ i ∈ s, x i * p * w i = p * ∑ i ∈ s, x i * w i := by
  rw [mul_sum_of_nonneg s _ h0 ht]
  exact Finset.sum_congr rfl fun i _ => by rw [mul_comm (x i) p, mul_assoc]

/-! ## Scores -/

/-- A row's scores: its products with the columns of the router weights. -/
def scores (x : (⟨2, ![1024, 512]⟩ : Shape).Idx → EReal) (w : (⟨2, ![512, 128]⟩ : Shape).Idx → EReal) (t : Fin 1024) (e : Fin 128) : EReal :=
  ∑ d : Fin 512, x (ix2 t d) * w (ix2 d e)

/-- Scores of real numbers are real numbers. -/
theorem scores_real (x : (⟨2, ![1024, 512]⟩ : Shape).Idx → EReal) (w : (⟨2, ![512, 128]⟩ : Shape).Idx → EReal)
    (hx : ∀ i, IsReal (x i)) (hw : ∀ i, IsReal (w i)) (t : Fin 1024) (e : Fin 128) : IsReal (scores x w t e) :=
  IsReal.sum _ _ fun d => (hx _).mul (hw _)

/-- The constant the maximum starts from is below every number. -/
theorem neg_inf : Ideal.ofBits .f32 0xFF800000#32 = ⊥ := by simp [Ideal.ofBits, Ideal.ieee]

end Cert.Moe

end
-- ==== Proof.Value.Finite.lean ====
/-
# What the precondition says

The predicate takes the absolute values of the rows and of the router's weights and asks that each be below infinity.
Here: the side conditions of the printed predicate, and that a launch it accepts has real rows and real router weights.
-/
module

public import proofs.«01_k».proof.Defs
public import proofs.«01_k».proof.Proof.Value.Router
public import Idealize.ShloMosaic.Lib.ReduceAll

@[expose] public section

noncomputable section

namespace Cert.Pre_finite_scores_KernelIdeal.Moe

open Cert.Pre_finite_scores_KernelIdeal Cert.Moe
open Idealize.ShloMosaic

/-- The predicate's side conditions. -/
theorem facts : Facts where
  bcast_S_S1024x512 := by decide
  reducesTo_S1024x512_S_d0_1 := by decide
  h_S_ := by decide
  bcast_S_S512x128 := by decide
  reducesTo_S512x128_S_d0_1 := by decide

/-- A number whose absolute value is below infinity is real. -/
theorem isReal_of_abs (a : EReal) (h : BitVec.ofBool (decide (FloatOps.absf (F := Ideal) (φ := .f32) a < Ideal.ofBits .f32 0x7F800000#32)) = 1#1) :
    IsReal a := by
  have htop : Ideal.ofBits .f32 0x7F800000#32 = ⊤ := by simp [Ideal.ofBits, Ideal.ieee]
  have h' : max a (-a) < ⊤ := by
    rw [htop] at h
    by_contra hn
    rw [show decide (FloatOps.absf (F := Ideal) (φ := .f32) a < (⊤ : EReal)) = false from decide_eq_false hn] at h
    exact absurd h (by decide)
  obtain ⟨h1, h2⟩ := max_lt_iff.1 h'
  exact isReal_of_ne h1.ne fun hb => by rw [hb] at h2; exact absurd h2 (by simp)

variable [Facts]

/-- A launch the predicate accepts has real rows and real router weights. -/
theorem real_of_fn (x : FVec Ideal S1024x512 .f32) (w : FVec Ideal S512x128 .f32) (ix : IVec S1024x1 32)
    (e : FVec Ideal S4x512x1024 .f32) (s : FVec Ideal S512x1024 .f32) (h : fn (F := Ideal) x w ix e s = fun _ => 1#1) :
    (∀ i, IsReal (x i)) ∧ ∀ i, IsReal (w i) := by
  obtain ⟨h1, h2⟩ := IntOp.andi_eq_one.1 (congrFun h ix0)
  haveI : Subsingleton S_.Idx := ⟨fun a b => funext fun i => i.elim0⟩
  exact ⟨fun i => isReal_of_abs _ (Host.reduce_andi_all _ _ _ _ _ h1 i), fun i => isReal_of_abs _ (Host.reduce_andi_all _ _ _ _ _ h2 i)⟩

end Cert.Pre_finite_scores_KernelIdeal.Moe

namespace Cert.Pre_finite_scores_ReferenceIdeal.Moe

open Cert.Pre_finite_scores_ReferenceIdeal

/-- The side conditions of the predicate read over the reference's shapes. -/
theorem facts : Facts where
  bcast_S_S1024x512 := by decide
  reducesTo_S1024x512_S_d0_1 := by decide
  h_S_ := by decide
  bcast_S_S512x128 := by decide
  reducesTo_S512x128_S_d0_1 := by decide

end Cert.Pre_finite_scores_ReferenceIdeal.Moe

end
-- ==== Proof.Value.Blocks.lean ====
/-
# What the kernel's buffers hold, element by element

The one grid point stages every argument whole and writes the result's block whole. The body's loads read rows, slots
and experts. Here: each of these at an element.
-/
module

public import proofs.«01_k».proof.Proof.KernelIdeal.Run
public import Idealize.ShloMosaic.Lib.Pointwise
public import Idealize.ShloMosaic.Lib.Pipeline.ValueKit

@[expose] public section

noncomputable section

namespace Cert.KernelIdeal.Moe

open Cert.KernelIdeal Cert.KernelIdeal.Gen
open Idealize.ShloMosaic Idealize.ShloMosaic.TcCoe

variable {F : FTy → Type} [FloatOps F]
variable (m : (ℓ : Loc nD τ sig) → Buf (Elt F) ℓ)

/-- The result's array holds, after the run, the block that the body leaves. -/
theorem finalA_out (c : Dev nD) : finalA m c 5 = outAt m c := by
  unfold finalA
  refine (dats m 0 c).arrAt_eq_of_after_last 5 t0_0 (by decide +kernel) _ fun j => ?_
  blk_simp
  rfl

/-- The staged input is the device's whole input, -/
theorem xIn_eq (c : Dev nD) : xIn m c = m ((c.tc : Thread nD τ).loc main_arg0) := by
  refine funext fun j => congrArg (m ((c.tc : Thread nD τ).loc main_arg0)) (funext fun a => Fin.ext ?_)
  have e : ∀ a, win0_0.index t0_0 a = 0 := by decide +kernel
  blk_simp [e a]

/-- the staged router weights its whole router weights, -/
theorem rwIn_eq (c : Dev nD) : rwIn m c = m ((c.tc : Thread nD τ).loc main_arg1) := by
  refine funext fun j => congrArg (m ((c.tc : Thread nD τ).loc main_arg1)) (funext fun a => Fin.ext ?_)
  have e : ∀ a, win0_1.index t0_0 a = 0 := by decide +kernel
  blk_simp [e a]

/-- the staged indices its whole indices, -/
theorem ixIn_eq (c : Dev nD) : ixIn m c = m ((c.tc : Thread nD τ).loc main_arg2) := by
  refine funext fun j => congrArg (m ((c.tc : Thread nD τ).loc main_arg2)) (funext fun a => Fin.ext ?_)
  have e : ∀ a, win0_2.index t0_0 a = 0 := by decide +kernel
  blk_simp [e a]

/-- the staged expert weights all it holds of them, -/
theorem exIn_eq (c : Dev nD) : exIn m c = m ((c.tc : Thread nD τ).loc main_arg3) := by
  refine funext fun j => congrArg (m ((c.tc : Thread nD τ).loc main_arg3)) (funext fun a => Fin.ext ?_)
  have e : ∀ a, win0_3.index t0_0 a = 0 := by decide +kernel
  blk_simp [e a]

/-- and the staged shared weights its whole shared weights. -/
theorem swIn_eq (c : Dev nD) : swIn m c = m ((c.tc : Thread nD τ).loc main_arg4) := by
  refine funext fun j => congrArg (m ((c.tc : Thread nD τ).loc main_arg4)) (funext fun a => Fin.ext ?_)
  have e : ∀ a, win0_4.index t0_0 a = 0 := by decide +kernel
  blk_simp [e a]

/-- The device's own rows of the input, at an element. -/
theorem ownX_at (c : Dev nD) (x : Vec F S1024x512 .f32) (r : Fin 32) (d : Fin 512) :
    ownX c x (ix2 r d) = x (ix2 (ownRow c r) d) := by
  refine congrArg x (funext fun a => Fin.ext ?_)
  show k0_off2 c a + 1 * ((ix2 r d : S32x512.Idx) a).val = _
  rw [congrFun (k0_off2_eq c) a]
  match a with
  | ⟨0, _⟩ => show 32 * c.val + 1 * r.val = 32 * c.val + r.val; omega
  | ⟨1, _⟩ => show 0 + 1 * d.val = d.val; omega

/-- The device's own rows of its partial result, at an element. -/
theorem ownSum_at (c : Dev nD) (s : Vec F S1024x1024 .bf16) (r : Fin 32) (h : Fin 1024) :
    ownSum c s (ix2 r h) = s (ix2 (ownRow c r) h) := by
  refine congrArg s (funext fun a => Fin.ext ?_)
  show k0_off3 c a + 1 * ((ix2 r h : S32x1024.Idx) a).val = _
  rw [congrFun (k0_off3_eq c) a]
  match a with
  | ⟨0, _⟩ => show 32 * c.val + 1 * r.val = 32 * c.val + r.val; omega
  | ⟨1, _⟩ => show 0 + 1 * h.val = h.val; omega

/-- Slot `k` of the filled ones, at an element: the device's row of the partial result of the device `k + 1` places before it. -/
theorem filled_at (S : Dev nD → S1024x1024.Idx → Elt F .bf16) (c : Dev nD) (k : Fin 31) (r : Fin 32) (h : Fin 1024) :
    filled (gather S c) (ix3 k r h) = S (before c k) (ix2 (ownRow c r) h) := by
  have hi : (Rect.unit (s := S32x32x1024) ![1, 0, 0] S31x32x1024.size inb_S32x32x1024_S31x32x1024_1_0_0).toLoadRect.idx (ix3 k r h)
      = ix3 ⟨k.val + 1, by omega⟩ r h := by
    refine funext fun a => Fin.ext ?_
    match a with
    | ⟨0, _⟩ => show 1 + 1 * k.val = k.val + 1; omega
    | ⟨1, _⟩ => show 0 + 1 * r.val = r.val; omega
    | ⟨2, _⟩ => show 0 + 1 * h.val = h.val; omega
  refine (congrArg (gather S c) hi).trans (congrArg (S (before c k)) (funext fun a => ?_))
  match a with
  | ⟨0, _⟩ => rfl
  | ⟨1, _⟩ => rfl

/-- One expert's weights out of the four, at an element. -/
theorem expertAt_at (e : Fin 4) (he) (w : Vec F S4x512x1024 .f32) (d : Fin 512) (h : Fin 1024) :
    expertAt e.val he w (ix3 0 d h) = w (ix3 e d h) := by
  refine congrArg w (funext fun a => Fin.ext ?_)
  match a with
  | ⟨0, _⟩ => show e.val + 1 * 0 = e.val; omega
  | ⟨1, _⟩ => show 0 + 1 * d.val = d.val; omega
  | ⟨2, _⟩ => show 0 + 1 * h.val = h.val; omega

end Cert.KernelIdeal.Moe
-- ==== Proof.Value.Partial.lean ====
/-
# What the kernel computes, element by element, over the extended reals

A device's partial result at a row and a column: of the four experts it holds the one the row names, its product with
the row scaled by the row's probability, or zero when the row names none of the four. Summed over the devices: the
expert the row names, of all.
-/
module

public import proofs.«01_k».proof.Proof.Value.Blocks
public import proofs.«01_k».proof.Proof.Value.Router

@[expose] public section

noncomputable section

namespace Cert.KernelIdeal.Moe

open Cert.KernelIdeal Cert.KernelIdeal.Gen Cert.Moe
open Idealize.ShloMosaic Idealize.ShloMosaic.TcCoe

/-- A selection by the equality of two words. -/
theorem select_cmpi_eq {α : Type} {w : Nat} (a b : BitVec w) (x y : α) :
    Scalar.select (IntOp.cmpi .eq a b) x y = if a = b then x else y := by
  by_cases h : a = b
  · rw [if_pos h, h, IntOp.cmpi_eq_self]; rfl
  · rw [if_neg h]
    have : IntOp.cmpi .eq a b = 0#1 := by
      show BitVec.ofBool (a == b) = 0#1
      rw [beq_eq_false_iff_ne.2 h]; rfl
    rw [this]; rfl

/-- A condition that does not depend on the summand may be drawn out of a sum. -/
theorem sum_if {ι : Type} (s : Finset ι) (p : Prop) [Decidable p] (f : ι → EReal) :
    (∑ i ∈ s, if p then f i else 0) = if p then ∑ i ∈ s, f i else 0 := by
  by_cases h : p
  · simp only [if_pos h]
  · simp only [if_neg h, Finset.sum_const_zero]

/-- Words of small numbers are equal only when the numbers are. -/
theorem ofNat_inj {a b : Nat} (ha : a < 128) (hb : b < 128) (h : BitVec.ofNat 32 a = BitVec.ofNat 32 b) : a = b := by
  have := congrArg BitVec.toNat h
  rw [BitVec.toNat_ofNat, BitVec.toNat_ofNat] at this
  omega

/-- The word a device compares the rows' indices with for its expert `j`: the expert's number among all. -/
theorem expert_word : ∀ (c : Dev nD) (j : Fin 4),
    Scalar.addi (Scalar.muli (idWord c) 4#32) (BitVec.ofNat 32 j.val) = BitVec.ofNat 32 (4 * c.val + j.val) := by decide +kernel

/-- The kernel's probability of a row: the weights masked to the named expert, summed, over the sum of the weights. -/
theorem picked_at (x : Vec Ideal S1024x512 .f32) (rw : Vec Ideal S512x128 .f32) (ix : Vec Ideal S1024x1 .i32) (t : Fin 1024) :
    k0_pay2 x rw ix (ix2 t 0)
      = Ideal.div (∑ e : Fin 128, if BitVec.ofNat 32 e.val = ix (ix2 t 0) then weight (scores x rw t) e else 0) (total (scores x rw t)) := by
  pointwise [k0_pay2, k0_pay1]
  simp only [select_cmpi_eq, neg_inf]
  rfl

/-- For a row that names an expert it is that expert's probability. -/
theorem picked_named (x : Vec Ideal S1024x512 .f32) (rw : Vec Ideal S512x128 .f32) (ix : Vec Ideal S1024x1 .i32) (t : Fin 1024)
    (n : Fin 128) (hn : ix (ix2 t 0) = BitVec.ofNat 32 n.val) : k0_pay2 x rw ix (ix2 t 0) = prob (scores x rw t) n := by
  rw [picked_at, hn]
  unfold prob
  congr 1
  refine (Finset.sum_eq_single n (fun e _ he => if_neg fun h => he (Fin.ext (ofNat_inj e.isLt n.isLt h))) fun h => absurd (Finset.mem_univ n) h).trans ?_
  exact if_pos rfl

/-- What one expert adds to a row's sum at a column: its product with the scaled row, when the row names it. -/
def term (ix : Vec Ideal S1024x1 .i32) (x : Vec Ideal S1024x512 .f32) (p : Vec Ideal S1024x1 .f32) (n : Nat) (w : Fin 512 → EReal)
    (t : Fin 1024) : EReal :=
  if ix (ix2 t 0) = BitVec.ofNat 32 n then ∑ d : Fin 512, x (ix2 t d) * p (ix2 t 0) * w d else 0

/-- A device's partial result is the sum of what its four experts add. -/
theorem partialOf_at (c : Dev nD) (x : Vec Ideal S1024x512 .f32) (rw : Vec Ideal S512x128 .f32) (ix : Vec Ideal S1024x1 .i32)
    (e0 e1 e2 e3 : Vec Ideal S1x512x1024 .f32) (t h : Fin 1024) :
    partialOf c x rw ix e0 e1 e2 e3 (ix2 t h)
      = term ix x (k0_pay2 x rw ix) (4 * c.val + 0) (fun d => e0 (ix3 0 d h)) t + term ix x (k0_pay2 x rw ix) (4 * c.val + 1) (fun d => e1 (ix3 0 d h)) t
        + term ix x (k0_pay2 x rw ix) (4 * c.val + 2) (fun d => e2 (ix3 0 d h)) t + term ix x (k0_pay2 x rw ix) (4 * c.val + 3) (fun d => e3 (ix3 0 d h)) t := by
  unfold partialOf
  generalize k0_pay2 x rw ix = p
  have w0 : Scalar.addi (Scalar.muli (idWord c) 4#32) 0#32 = BitVec.ofNat 32 (4 * c.val + 0) := expert_word c 0
  have w1 : Scalar.addi (Scalar.muli (idWord c) 4#32) 1#32 = BitVec.ofNat 32 (4 * c.val + 1) := expert_word c 1
  have w2 : Scalar.addi (Scalar.muli (idWord c) 4#32) 2#32 = BitVec.ofNat 32 (4 * c.val + 2) := expert_word c 2
  have w3 : Scalar.addi (Scalar.muli (idWord c) 4#32) 3#32 = BitVec.ofNat 32 (4 * c.val + 3) := expert_word c 3
  pointwise [k0_pay1, k0_pay3, k0_pay4, k0_pay5, k0_pay6, k0_pay7]
  simp only [select_cmpi_eq, w0, w1, w2, w3, sum_if]
  rfl

variable (m : (ℓ : Loc nD τ sig) → Buf (Elt Ideal) ℓ)

/-- A device's partial result at a row and a column. -/
def sumAt (c : Dev nD) (t h : Fin 1024) : EReal := sums m c (ix2 t h)

/-- The partial result of a device that has the input `X`, router weights `R`, indices `I` and expert weights `E`. -/
theorem sums_at (c : Dev nD) (X : Vec Ideal S1024x512 .f32) (R : Vec Ideal S512x128 .f32) (I : Vec Ideal S1024x1 .i32)
    (E : Vec Ideal S4x512x1024 .f32) (hX : m ((c.tc : Thread nD τ).loc main_arg0) = X) (hR : m ((c.tc : Thread nD τ).loc main_arg1) = R)
    (hI : m ((c.tc : Thread nD τ).loc main_arg2) = I) (hE : m ((c.tc : Thread nD τ).loc main_arg3) = E) (t h : Fin 1024) :
    sumAt m c t h = ∑ j : Fin 4, term I X (k0_pay2 X R I) (4 * c.val + j.val) (fun d => E (ix3 j d h)) t := by
  unfold sumAt sums
  rw [xIn_eq, rwIn_eq, ixIn_eq, exIn_eq, hX, hR, hI, hE, partialOf_at, Fin.sum_univ_four]
  have e0 : ∀ d, expertAt 0 inb_S4x512x1024_S1x512x1024_0_0_0 E (ix3 0 d h) = E (ix3 0 d h) := fun d => expertAt_at 0 _ E d h
  have e1 : ∀ d, expertAt 1 inb_S4x512x1024_S1x512x1024_1_0_0 E (ix3 0 d h) = E (ix3 1 d h) := fun d => expertAt_at 1 _ E d h
  have e2 : ∀ d, expertAt 2 inb_S4x512x1024_S1x512x1024_2_0_0 E (ix3 0 d h) = E (ix3 2 d h) := fun d => expertAt_at 2 _ E d h
  have e3 : ∀ d, expertAt 3 inb_S4x512x1024_S1x512x1024_3_0_0 E (ix3 0 d h) = E (ix3 3 d h) := fun d => expertAt_at 3 _ E d h
  simp only [e0, e1, e2, e3]
  rfl

/-- A device's block of the result: the shared product, its own rows of its partial result, and those of the 31 others. -/
theorem outAt_at (c : Dev nD) (X : Vec Ideal S1024x512 .f32) (S : Vec Ideal S512x1024 .f32)
    (hX : m ((c.tc : Thread nD τ).loc main_arg0) = X) (hS : m ((c.tc : Thread nD τ).loc main_arg4) = S) (r : Fin 32) (h : Fin 1024) :
    outAt m c (ix2 r h) = ∑ d : Fin 512, X (ix2 (ownRow c r) d) * S (ix2 d h) + sumAt m c (ownRow c r) h
        + ∑ k : Fin 31, sumAt m (before c k) (ownRow c r) h := by
  unfold outAt sumAt
  rw [xIn_eq, swIn_eq, hX, hS]
  generalize hs : sums m = s
  pointwise [k0_pay8, k0_pay9]
  simp only [ownX_at, ownSum_at]
  exact Ideal.add_congr rfl (Finset.sum_congr rfl fun k _ => filled_at s c k r h)

/-- The devices before `c` are all the others. -/
theorem before_surj : ∀ c d : Dev nD, d ≠ c → ∃ k, before c k = d := by decide +kernel
/-- Each of them once. -/
theorem before_inj : ∀ (c : Dev nD) (k k' : Fin 31), before c k = before c k' → k = k' := by decide +kernel
/-- None of them is `c`. -/
theorem before_ne : ∀ (c : Dev nD) (k : Fin 31), before c k ≠ c := by decide +kernel

/-- A device's own number and those of the devices before it add up to the sum over all devices. -/
theorem sum_devices (f : Dev nD → EReal) (c : Dev nD) : f c + ∑ k : Fin 31, f (before c k) = ∑ d : Dev nD, f d := by
  classical
  rw [← Finset.add_sum_erase _ f (Finset.mem_univ c)]
  congr 1
  refine Finset.sum_bij (fun k _ => before c k) (fun k _ => Finset.mem_erase.2 ⟨before_ne c k, Finset.mem_univ _⟩)
    (fun k _ k' _ h => before_inj c k k' h) (fun d hd => ?_) fun _ _ => rfl
  obtain ⟨k, hk⟩ := before_surj c d (Finset.mem_erase.1 hd).1
  exact ⟨k, Finset.mem_univ _, hk⟩

/-- The sum over all devices of their experts' terms when the row names expert `n`: that expert's term. -/
theorem sum_named (I : Vec Ideal S1024x1 .i32) (X : Vec Ideal S1024x512 .f32) (p : Vec Ideal S1024x1 .f32) (w : Fin 128 → Fin 512 → EReal)
    (t : Fin 1024) (n : Fin 128) (hn : I (ix2 t 0) = BitVec.ofNat 32 n.val) :
    ∑ c : Dev nD, ∑ j : Fin 4, term I X p (4 * c.val + j.val) (w ⟨4 * c.val + j.val, by have h1 : c.val < 32 := c.isLt; omega⟩) t
      = ∑ d : Fin 512, X (ix2 t d) * p (ix2 t 0) * w n d := by
  have hlt : n.val / 4 < 32 := by omega
  have off : ∀ (c : Dev nD) (j : Fin 4), 4 * c.val + j.val ≠ n.val →
      term I X p (4 * c.val + j.val) (w ⟨4 * c.val + j.val, by have h1 : c.val < 32 := c.isLt; omega⟩) t = 0 := fun c j h => by
    unfold term
    rw [if_neg]
    rw [hn]
    exact fun e => h (ofNat_inj (by have h1 : c.val < 32 := c.isLt; omega) n.isLt e.symm)
  rw [Finset.sum_eq_single (⟨n.val / 4, hlt⟩ : Dev nD)
    (fun c _ hc => Finset.sum_eq_zero fun j _ => off c j fun h => hc (Fin.ext (by show c.val = n.val / 4; omega)))
    (fun h => absurd (Finset.mem_univ _) h),
    Finset.sum_eq_single (⟨n.val % 4, Nat.mod_lt _ (by decide)⟩ : Fin 4)
    (fun j _ hj => off _ j fun h => hj (Fin.ext (by show j.val = n.val % 4; have h' : 4 * (n.val / 4) + j.val = n.val := h; omega)))
    (fun h => absurd (Finset.mem_univ _) h)]
  have hsum : 4 * (n.val / 4) + n.val % 4 = n.val := by omega
  unfold term
  rw [if_pos (by rw [hn]; exact congrArg (BitVec.ofNat 32) hsum.symm)]
  refine Finset.sum_congr rfl fun d _ => congrArg (fun e => X (ix2 t d) * p (ix2 t 0) * w e d) (Fin.ext hsum)

/-- When the row names no expert: zero. -/
theorem sum_unnamed (I : Vec Ideal S1024x1 .i32) (X : Vec Ideal S1024x512 .f32) (p : Vec Ideal S1024x1 .f32) (w : Fin 128 → Fin 512 → EReal)
    (t : Fin 1024) (hn : ∀ n : Fin 128, I (ix2 t 0) ≠ BitVec.ofNat 32 n.val) :
    ∑ c : Dev nD, ∑ j : Fin 4, term I X p (4 * c.val + j.val) (w ⟨4 * c.val + j.val, by have h1 : c.val < 32 := c.isLt; omega⟩) t = 0 :=
  Finset.sum_eq_zero fun c _ => Finset.sum_eq_zero fun j _ =>
    if_neg (hn ⟨4 * c.val + j.val, by have h1 : c.val < 32 := c.isLt; omega⟩)

end Cert.KernelIdeal.Moe

end
-- ==== Proof.Value.Reference.lean ====
/-
# What the reference computes, element by element, over the extended reals

At a row and a column: the shared product, and, where the row names an expert, that expert's product times the row's
probability of it.
-/
module

public import proofs.«01_k».proof.Proof.Gen.ReferenceIdeal.Run
public import proofs.«01_k».proof.Proof.Value.Router
public import Idealize.ShloMosaic.Lib.Pointwise

@[expose] public section

noncomputable section

namespace Cert.ReferenceIdeal.Moe

open Cert.ReferenceIdeal Cert.ReferenceIdeal.Gen Cert.Moe
open Idealize.ShloMosaic Idealize.ShloMosaic.TcCoe

/-! ## The two gathers -/

/-- The gather that takes one element per pair of index words: at `t` the operand at the row and the column that pair `t`
    gives, each held inside the operand. -/
theorem picks {α : Type} (x : S1024x128.Idx → α) (idx : IVec S1024x2 32) (t : Fin 1024) :
    Host.gather gather_S1024x128_S1024x2_S1024_n_01_n_n_01_1_11 x idx (ix1 t)
      = x (ix2 ⟨min (idx (ix2 t 0)).toInt.toNat 1023, by omega⟩ ⟨min (idx (ix2 t 1)).toInt.toNat 127, by omega⟩) := by
  unfold Host.gather
  refine congrArg x (funext fun a => Fin.ext ?_)
  have h0 : gather_S1024x128_S1024x2_S1024_n_01_n_n_01_1_11.siIdx (ix1 t) ⟨0, by decide⟩ = ix2 t 0 := by
    refine funext fun b => Fin.ext ?_
    match b with
    | ⟨0, _⟩ => rfl
    | ⟨1, _⟩ => rfl
  have h1 : gather_S1024x128_S1024x2_S1024_n_01_n_n_01_1_11.siIdx (ix1 t) ⟨1, by decide⟩ = ix2 t 1 := by
    refine funext fun b => Fin.ext ?_
    match b with
    | ⟨0, _⟩ => rfl
    | ⟨1, _⟩ => rfl
  match a with
  | ⟨0, _⟩ => exact congrArg (fun i => min (idx i).toInt.toNat _) h0
  | ⟨1, _⟩ => exact congrArg (fun i => min (idx i).toInt.toNat _) h1

/-- The gather that takes whole experts: at `(t, d, h)` the operand at the expert that index `t` gives, held inside the
    operand. -/
theorem rows {α : Type} (x : S128x512x1024.Idx → α) (idx : IVec S1024x1 32) (t : Fin 1024) (d : Fin 512) (h : Fin 1024) :
    Host.gather gather_S128x512x1024_S1024x1_S1024x512x1024_12_0_n_n_0_1_15121024 x idx (ix3 t d h)
      = x (ix3 ⟨min (idx (ix2 t 0)).toInt.toNat 127, by omega⟩ d h) := by
  unfold Host.gather
  refine congrArg x (funext fun a => Fin.ext ?_)
  have h0 : gather_S128x512x1024_S1024x1_S1024x512x1024_12_0_n_n_0_1_15121024.siIdx (ix3 t d h) ⟨0, by decide⟩ = ix2 t 0 := by
    refine funext fun b => Fin.ext ?_
    match b with
    | ⟨0, _⟩ => rfl
    | ⟨1, _⟩ => rfl
  match a with
  | ⟨0, _⟩ => exact congrArg (fun i => min (idx i).toInt.toNat _) h0
  | ⟨1, _⟩ => show 0 + 0 + d.val = d.val; omega
  | ⟨2, _⟩ => show 0 + 0 + h.val = h.val; omega

/-! ## The reference's steps -/

/-- The rows' indices, held between 0 and 127. -/
def clipped (I : IVec S1024x1 32) : IVec S1024 32 :=
  minsi (broadcastInDim S1024 ![] bcast_S_S1024 (id (constantI S_ 32 127#32)))
    (maxsi (broadcastInDim S1024 ![] bcast_S_S1024 (id (constantI S_ 32 0#32))) (shapeCast _ I shapeCasts_S1024x1_S1024))

/-- Index words counted from the end where they are negative, as a column. -/
def wrapped (n : BitVec 32) (v : IVec S1024 32) : IVec S1024x1 32 :=
  broadcastInDim S1024x1 ![0] bcast_S1024_S1024x1_0
    (select (cmpi .slt v (broadcastInDim S1024 ![] bcast_S_S1024 (constantI S_ 32 0#32)))
      (addi v (broadcastInDim S1024 ![] bcast_S_S1024 (constantI S_ 32 n))) v)

/-- The scores. -/
def scoreMat (X : FVec Ideal S1024x512 .f32) (R : FVec Ideal S512x128 .f32) : FVec Ideal S1024x128 .f32 :=
  Host.dotGeneral dot_S1024x512_S512x128_S1024x128_1_0_0_1_n_n none X R

/-- The weights: the exponentials of the scores less the row's largest. -/
def weightMat (X : FVec Ideal S1024x512 .f32) (R : FVec Ideal S512x128 .f32) : FVec Ideal S1024x128 .f32 :=
  Host.exp (subf (scoreMat X R) (broadcastInDim S1024x128 ![0, 1] bcast_S1024x1_S1024x128_0_1
    (broadcastInDim S1024x1 ![0] bcast_S1024_S1024x1_0
      (Host.reduce FloatOps.maximumf (scoreMat X R) (constant S_ .f32 0xFF800000#32) reducesTo_S1024x128_S1024_d1 h_S_))))

/-- The probabilities. -/
def probMat (X : FVec Ideal S1024x512 .f32) (R : FVec Ideal S512x128 .f32) : FVec Ideal S1024x128 .f32 :=
  Host.divf (weightMat X R) (broadcastInDim S1024x128 ![0, 1] bcast_S1024x1_S1024x128_0_1
    (broadcastInDim S1024x1 ![0] bcast_S1024_S1024x1_0
      (Host.reduceAdd (weightMat X R) (constant S_ .f32 0x00000000#32) reducesTo_S1024x128_S1024_d1 h_S_)))

/-- For each row, its own number and its held index: where its probability is found. -/
def pairs (I : IVec S1024x1 32) : IVec S1024x2 32 :=
  concatenate S1024x2 1 [⟨S1024x1, wrapped 1024#32 (iotaInDim S1024 32 0)⟩, ⟨S1024x1, wrapped 128#32 (clipped I)⟩]
    concatenates_S1024x1_S1024x1_S1024x2_d1

/-- The probability each row gives the expert it names, zero where it names none. -/
def namedProb (X : FVec Ideal S1024x512 .f32) (R : FVec Ideal S512x128 .f32) (I : IVec S1024x1 32) : FVec Ideal S1024 .f32 :=
  select (cmpi .eq (clipped I) (shapeCast _ I shapeCasts_S1024x1_S1024))
    (Host.gather gather_S1024x128_S1024x2_S1024_n_01_n_n_01_1_11 (probMat X R) (pairs I))
    (broadcastInDim S1024 ![] bcast_S_S1024 (id (constant S_ .f32 0x00000000#32)))

/-- Each row's product with the expert at its held index. -/
def routed (X : FVec Ideal S1024x512 .f32) (I : IVec S1024x1 32) (W : FVec Ideal S128x512x1024 .f32) : FVec Ideal S1024x1024 .f32 :=
  Host.dotGeneral dot_S1024x512_S1024x512x1024_S1024x1024_1_1_n_2_0_0 none X
    (Host.gather gather_S128x512x1024_S1024x1_S1024x512x1024_12_0_n_n_0_1_15121024 W (wrapped 128#32 (clipped I)))

/-- The result. -/
def result (X : FVec Ideal S1024x512 .f32) (R : FVec Ideal S512x128 .f32) (I : IVec S1024x1 32) (W : FVec Ideal S128x512x1024 .f32)
    (S : FVec Ideal S512x1024 .f32) : FVec Ideal S1024x1024 .f32 :=
  addf (Host.dotGeneral dot_S1024x512_S512x1024_S1024x1024_1_0_0_1_n_n none X S)
    (mulf (broadcastInDim S1024x1024 ![0, 1] bcast_S1024x1_S1024x1024_0_1
      (broadcastInDim S1024x1 ![0] bcast_S1024_S1024x1_0 (namedProb X R I))) (routed X I W))

/-- The reference's run leaves that. -/
theorem out_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v42 result namedProb pairs routed probMat weightMat scoreMat wrapped clipped
  rfl

/-! ## The steps at an element -/

/-- A word held between 0 and 127. -/
def clipWord (w : BitVec 32) : BitVec 32 := IntOp.minsi 127#32 (IntOp.maxsi 0#32 w)

/-- A word that holding leaves alone names an expert. -/
theorem named_of_clip (w : BitVec 32) (h : clipWord w = w) : ∃ n : Fin 128, w = BitVec.ofNat 32 n.val := by
  have h0 : clipWord w = 127#32 ∨ clipWord w = 0#32 ∨ ((127#32).slt w = false ∧ w.slt 0#32 = false) := by
    unfold clipWord IntOp.minsi IntOp.maxsi
    cases hw : w.slt 0#32
    · by_cases hs : (127#32).slt w
      · simp [hs]
      · simp [hs]
    · simp
  rcases h0 with h1 | h1 | ⟨h1, h2⟩
  · exact ⟨127, h.symm.trans h1⟩
  · exact ⟨0, h.symm.trans h1⟩
  · have a : w.toInt ≤ 127 := by have := h1; rw [BitVec.slt_eq_decide] at this; simpa using this
    have b : 0 ≤ w.toInt := by have := h2; rw [BitVec.slt_eq_decide] at this; simpa using this
    have hn : w.toNat < 128 := by rw [BitVec.toInt_eq_toNat_cond] at a b; split at a <;> omega
    exact ⟨⟨w.toNat, hn⟩, by simp⟩

/-- A word that names an expert is left alone, is not negative, and read as a number is the expert. -/
theorem clip_named : ∀ n : Fin 128, clipWord (BitVec.ofNat 32 n.val) = BitVec.ofNat 32 n.val
    ∧ (BitVec.ofNat 32 n.val).slt 0#32 = false ∧ min (BitVec.ofNat 32 n.val).toInt.toNat 127 = n.val := by decide +kernel

/-- A row's number as a word is not negative and read back is the row. -/
theorem row_word : ∀ t : Fin 1024, (BitVec.ofNat 32 t.val).slt 0#32 = false ∧ min (BitVec.ofNat 32 t.val).toInt.toNat 1023 = t.val := by
  decide +kernel

theorem clipped_at (I : IVec S1024x1 32) (t : Fin 1024) : clipped I (ix1 t) = clipWord (I (ix2 t 0)) := by
  pointwise [clipped]
  rfl

/-- A word that is not negative is not counted from the end. -/
theorem wrapped_at (n : BitVec 32) (v : IVec S1024 32) (t : Fin 1024) (h : (v (ix1 t)).slt 0#32 = false) :
    wrapped n v (ix2 t 0) = v (ix1 t) := by
  pointwise [wrapped]
  have : IntOp.cmpi .slt (v (ix1 t)) 0#32 = 0#1 := by
    show BitVec.ofBool _ = _
    rw [h]; rfl
  rw [this]; rfl

/-- The weights at an element. -/
theorem weightMat_at (X : FVec Ideal S1024x512 .f32) (R : FVec Ideal S512x128 .f32) (t : Fin 1024) (e : Fin 128) :
    weightMat X R (ix2 t e) = weight (scores X R t) e := by
  pointwise [weightMat, scoreMat]
  rw [neg_inf]
  rfl

/-- The probabilities at an element. -/
theorem probMat_at (X : FVec Ideal S1024x512 .f32) (R : FVec Ideal S512x128 .f32) (t : Fin 1024) (e : Fin 128) :
    probMat X R (ix2 t e) = prob (scores X R t) e := by
  pointwise [probMat]
  simp only [weightMat_at]
  rfl

/-- A row's pair gives its own number -/
theorem pairs_row (I : IVec S1024x1 32) (t : Fin 1024) : pairs I (ix2 t 0) = BitVec.ofNat 32 t.val := by
  have h : wrapped 1024#32 (iotaInDim S1024 32 0) (ix2 t 0) = BitVec.ofNat 32 t.val := wrapped_at _ _ t (row_word t).1
  rw [← h]
  unfold pairs
  generalize wrapped 1024#32 (iotaInDim S1024 32 0) = a
  pointwise

/-- and the expert it names. -/
theorem pairs_expert (I : IVec S1024x1 32) (t : Fin 1024) (n : Fin 128) (hn : I (ix2 t 0) = BitVec.ofNat 32 n.val) :
    pairs I (ix2 t 1) = BitVec.ofNat 32 n.val := by
  have hc : clipped I (ix1 t) = BitVec.ofNat 32 n.val := by rw [clipped_at, hn, (clip_named n).1]
  have h : wrapped 128#32 (clipped I) (ix2 t 0) = BitVec.ofNat 32 n.val :=
    (wrapped_at _ _ t (by rw [hc]; exact (clip_named n).2.1)).trans hc
  rw [← h]
  unfold pairs
  generalize wrapped 128#32 (clipped I) = a
  generalize wrapped 1024#32 (iotaInDim S1024 32 0) = b
  pointwise

/-- A row that names an expert has that expert's probability. -/
theorem namedProb_named (X : FVec Ideal S1024x512 .f32) (R : FVec Ideal S512x128 .f32) (I : IVec S1024x1 32) (t : Fin 1024)
    (n : Fin 128) (hn : I (ix2 t 0) = BitVec.ofNat 32 n.val) : namedProb X R I (ix1 t) = prob (scores X R t) n := by
  have hp : Host.gather gather_S1024x128_S1024x2_S1024_n_01_n_n_01_1_11 (probMat X R) (pairs I) (ix1 t) = prob (scores X R t) n := by
    rw [picks, ← probMat_at]
    refine congrArg (probMat X R) (congrArg₂ ix2 (Fin.ext ?_) (Fin.ext ?_))
    · show min (pairs I (ix2 t 0)).toInt.toNat 1023 = t.val
      rw [pairs_row]; exact (row_word t).2
    · show min (pairs I (ix2 t 1)).toInt.toNat 127 = n.val
      rw [pairs_expert I t n hn]; exact (clip_named n).2.2
  rw [← hp]
  unfold namedProb
  generalize Host.gather gather_S1024x128_S1024x2_S1024_n_01_n_n_01_1_11 (probMat X R) (pairs I) = g
  pointwise
  rw [clipped_at, hn, (clip_named n).1, IntOp.cmpi_eq_self]
  rfl

/-- A row that names none has zero. -/
theorem namedProb_unnamed (X : FVec Ideal S1024x512 .f32) (R : FVec Ideal S512x128 .f32) (I : IVec S1024x1 32) (t : Fin 1024)
    (hn : ∀ n : Fin 128, I (ix2 t 0) ≠ BitVec.ofNat 32 n.val) : namedProb X R I (ix1 t) = 0 := by
  unfold namedProb
  generalize Host.gather gather_S1024x128_S1024x2_S1024_n_01_n_n_01_1_11 (probMat X R) (pairs I) = g
  pointwise
  have : IntOp.cmpi .eq (clipWord (I (ix2 t 0))) (I (ix2 t 0)) = 0#1 := by
    have hne : clipWord (I (ix2 t 0)) ≠ I (ix2 t 0) := fun h => let ⟨n, h'⟩ := named_of_clip _ h; hn n h'
    show BitVec.ofBool (_ == _) = 0#1
    rw [beq_false_of_ne hne]; rfl
  rw [clipped_at, this]
  show Ideal.ofBits .f32 0x00000000#32 = 0
  simp [Ideal.ofBits, Ideal.ieee]

/-- The product of a row that names an expert with that expert. -/
theorem routed_at (X : FVec Ideal S1024x512 .f32) (I : IVec S1024x1 32) (W : FVec Ideal S128x512x1024 .f32) (t h : Fin 1024)
    (n : Fin 128) (hn : I (ix2 t 0) = BitVec.ofNat 32 n.val) :
    routed X I W (ix2 t h) = ∑ d : Fin 512, X (ix2 t d) * W (ix3 n d h) := by
  have hg : ∀ d, Host.gather gather_S128x512x1024_S1024x1_S1024x512x1024_12_0_n_n_0_1_15121024 W (wrapped 128#32 (clipped I)) (ix3 t d h)
      = W (ix3 n d h) := fun d => by
    have hc : clipped I (ix1 t) = BitVec.ofNat 32 n.val := by rw [clipped_at, hn, (clip_named n).1]
    have hw : wrapped 128#32 (clipped I) (ix2 t 0) = BitVec.ofNat 32 n.val :=
      (wrapped_at _ _ t (by rw [hc]; exact (clip_named n).2.1)).trans hc
    rw [rows]
    refine congrArg (fun e => W (ix3 e d h)) (Fin.ext ?_)
    show min (wrapped 128#32 (clipped I) (ix2 t 0)).toInt.toNat 127 = n.val
    rw [hw]; exact (clip_named n).2.2
  simp only [← hg]
  unfold routed
  generalize Host.gather gather_S128x512x1024_S1024x1_S1024x512x1024_12_0_n_n_0_1_15121024 W (wrapped 128#32 (clipped I)) = g
  pointwise

/-- The result at a row and a column. -/
theorem result_at (X : FVec Ideal S1024x512 .f32) (R : FVec Ideal S512x128 .f32) (I : IVec S1024x1 32) (W : FVec Ideal S128x512x1024 .f32)
    (S : FVec Ideal S512x1024 .f32) (t h : Fin 1024) :
    result X R I W S (ix2 t h) = ∑ d : Fin 512, X (ix2 t d) * S (ix2 d h) + namedProb X R I (ix1 t) * routed X I W (ix2 t h) := by
  unfold result
  generalize namedProb X R I = p
  generalize routed X I W = q
  pointwise

/-- A row that names an expert gets the shared product and that expert's, scaled by its probability; -/
theorem result_named (X : FVec Ideal S1024x512 .f32) (R : FVec Ideal S512x128 .f32) (I : IVec S1024x1 32) (W : FVec Ideal S128x512x1024 .f32)
    (S : FVec Ideal S512x1024 .f32) (t h : Fin 1024) (n : Fin 128) (hn : I (ix2 t 0) = BitVec.ofNat 32 n.val) :
    result X R I W S (ix2 t h)
      = ∑ d : Fin 512, X (ix2 t d) * S (ix2 d h) + prob (scores X R t) n * ∑ d : Fin 512, X (ix2 t d) * W (ix3 n d h) := by
  rw [result_at, namedProb_named X R I t n hn, routed_at X I W t h n hn]

/-- one that names none, the shared product alone. -/
theorem result_unnamed (X : FVec Ideal S1024x512 .f32) (R : FVec Ideal S512x128 .f32) (I : IVec S1024x1 32) (W : FVec Ideal S128x512x1024 .f32)
    (S : FVec Ideal S512x1024 .f32) (t h : Fin 1024) (hn : ∀ n : Fin 128, I (ix2 t 0) ≠ BitVec.ofNat 32 n.val) :
    result X R I W S (ix2 t h) = ∑ d : Fin 512, X (ix2 t d) * S (ix2 d h) := by
  rw [result_at, namedProb_unnamed X R I t hn, zero_mul, add_zero]

end Cert.ReferenceIdeal.Moe

end
-- ==== Proof.Value.Equal.lean ====
/-
# The kernel's result is the reference's, over the extended reals

Every device holds the whole input, router weights, indices and shared weights, and its four experts; the input and the
router weights are real numbers. Then each device ends with its 32 rows of the reference's result.
-/
module

public import proofs.«01_k».proof.Proof.Value.Partial
public import proofs.«01_k».proof.Proof.Value.Reference
public import Idealize.ShloMosaic.Lib.Layout

@[expose] public section

noncomputable section

namespace Cert.Moe

open Idealize.ShloMosaic Idealize.ShloMosaic.TcCoe
open Cert.KernelIdeal (S1024x512 S512x128 S1024x1 S512x1024 nD τ sig main_arg0 main_arg1 main_arg2 main_arg3 main_arg4)
open Cert.KernelIdeal.Moe (outAt outAt_at sumAt sums_at ownRow before sum_devices sum_named sum_unnamed picked_named)
open Cert.ReferenceIdeal.Moe (result result_named result_unnamed)

/-- The experts' shape. -/
abbrev Experts : Shape := ⟨3, ![128, 512, 1024]⟩

/-- A device's expert `j` is expert `4 c + j` of all. -/
theorem expert_block (c : Dev nD) (W : Experts.Idx → EReal) (j : Fin 4) (d : Fin 512) (h : Fin 1024) :
    (Layout.block ⟨3, ![4, 512, 1024]⟩ Experts 0 32 c W) (ix3 j d h)
      = W (ix3 ⟨4 * c.val + j.val, by have h1 : c.val < 32 := c.isLt; omega⟩ d h) := by
  rw [Layout.block_apply]
  refine congrArg W (funext fun a => Fin.ext ?_)
  rw [Layout.Tiles.idx_val]
  match a with
  | ⟨0, _⟩ => show c.val * 4 + j.val = 4 * c.val + j.val; omega
  | ⟨1, _⟩ => rfl
  | ⟨2, _⟩ => rfl

/-- A device's row `r` of the result is row `32 c + r` of all. -/
theorem row_block (c : Dev nD) (v : (⟨2, ![1024, 1024]⟩ : Shape).Idx → EReal) (r : Fin 32) (h : Fin 1024) :
    (Layout.block ⟨2, ![32, 1024]⟩ ⟨2, ![1024, 1024]⟩ 0 32 c v) (ix2 r h) = v (ix2 (ownRow c r) h) := by
  rw [Layout.block_apply]
  refine congrArg v (funext fun a => Fin.ext ?_)
  rw [Layout.Tiles.idx_val]
  match a with
  | ⟨0, _⟩ => show c.val * 32 + r.val = 32 * c.val + r.val; omega
  | ⟨1, _⟩ => rfl

variable (m : (ℓ : Loc nD τ sig) → Buf (Elt Ideal) ℓ)
variable (X : Vec Ideal S1024x512 .f32) (R : Vec Ideal S512x128 .f32) (I : Vec Ideal S1024x1 .i32) (W : Experts.Idx → EReal)
  (S : Vec Ideal S512x1024 .f32)

/-- A device's result at a row and a column: the shared product and what all 128 experts add to the row. -/
theorem outAt_sum (hX : ∀ c : Dev nD, m ((c.tc : Thread nD τ).loc main_arg0) = X) (hR : ∀ c : Dev nD, m ((c.tc : Thread nD τ).loc main_arg1) = R)
    (hI : ∀ c : Dev nD, m ((c.tc : Thread nD τ).loc main_arg2) = I)
    (hW : ∀ c : Dev nD, m ((c.tc : Thread nD τ).loc main_arg3) = Layout.block ⟨3, ![4, 512, 1024]⟩ Experts 0 32 c W)
    (hS : ∀ c : Dev nD, m ((c.tc : Thread nD τ).loc main_arg4) = S) (c : Dev nD) (r : Fin 32) (h : Fin 1024) :
    outAt m c (ix2 r h) = ∑ d : Fin 512, X (ix2 (ownRow c r) d) * S (ix2 d h)
      + ∑ c' : Dev nD, ∑ j : Fin 4, Cert.KernelIdeal.Moe.term I X (Cert.KernelIdeal.Gen.k0_pay2 X R I) (4 * c'.val + j.val)
          (fun d => W (ix3 ⟨4 * c'.val + j.val, by have h1 : c'.val < 32 := c'.isLt; omega⟩ d h)) (ownRow c r) := by
  rw [outAt_at m c X S (hX c) (hS c), add_assoc, sum_devices (fun c' => sumAt m c' (ownRow c r) h) c]
  refine Ideal.add_congr rfl (Finset.sum_congr rfl fun c' _ => ?_)
  rw [sums_at m c' X R I _ (hX c') (hR c') (hI c') (hW c')]
  refine Finset.sum_congr rfl fun j _ => ?_
  congr 1
  exact funext fun d => expert_block c' W j d h

/-- Each device ends with its rows of the reference's result. -/
theorem outAt_eq (hX : ∀ c : Dev nD, m ((c.tc : Thread nD τ).loc main_arg0) = X) (hR : ∀ c : Dev nD, m ((c.tc : Thread nD τ).loc main_arg1) = R)
    (hI : ∀ c : Dev nD, m ((c.tc : Thread nD τ).loc main_arg2) = I)
    (hW : ∀ c : Dev nD, m ((c.tc : Thread nD τ).loc main_arg3) = Layout.block ⟨3, ![4, 512, 1024]⟩ Experts 0 32 c W)
    (hS : ∀ c : Dev nD, m ((c.tc : Thread nD τ).loc main_arg4) = S) (hx : ∀ i, IsReal (X i)) (hr : ∀ i, IsReal (R i)) (c : Dev nD) :
    outAt m c = Layout.block ⟨2, ![32, 1024]⟩ ⟨2, ![1024, 1024]⟩ 0 32 c (result X R I W S) := by
  refine funext fun i => ?_
  obtain ⟨r, h, rfl⟩ : ∃ (r : Fin 32) (h : Fin 1024), i = ix2 r h := ⟨i 0, i 1, funext fun a => by match a with | ⟨0, _⟩ => rfl | ⟨1, _⟩ => rfl⟩
  rw [row_block c (result X R I W S) r h]
  refine (outAt_sum m X R I W S hX hR hI hW hS c r h).trans ?_
  generalize ownRow c r = t
  by_cases hn : ∃ n : Fin 128, I (ix2 t 0) = BitVec.ofNat 32 n.val
  · obtain ⟨n, hn⟩ := hn
    rw [result_named X R I W S t h n hn]
    refine Ideal.add_congr rfl ((sum_named I X _ (fun n d => W (ix3 n d h)) t n hn).trans ?_)
    rw [picked_named X R I t n hn]
    have hp := prob_real (scores X R t) (scores_real X R hx hr t) n
    exact scaled_product Finset.univ (fun d => X (ix2 t d)) (fun d => W (ix3 n d h)) hp.1 hp.2
  · have hn' : ∀ n : Fin 128, I (ix2 t 0) ≠ BitVec.ofNat 32 n.val := fun n h => hn ⟨n, h⟩
    rw [result_unnamed X R I W S t h hn']
    exact (Ideal.add_congr rfl (sum_unnamed I X _ (fun n d => W (ix3 n d h)) t hn')).trans (add_zero _)

end Cert.Moe

end
-- ==== Proof.Value.Algebraic.lean ====
/-
# The two programs compute the same over the extended reals

The kernel's run and the reference's run, on matching arguments, end with the same result, the kernel's cut over the devices.
-/
module

public import proofs.«01_k».proof.Defs
public import proofs.«01_k».proof.Proof.KernelIdeal.Run
public import proofs.«01_k».proof.Proof.Value.Finite
public import proofs.«01_k».proof.Proof.Value.Equal

@[expose] public section

noncomputable section

namespace Cert.Moe

open Idealize.ShloMosaic Idealize.ShloMosaic.TcCoe Idealize.SL.Sem

/-- Where the input and the router weights are finite, each device ends with its rows of the reference's result, and both
    programs keep their arguments. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Moe.facts) := by
  intro m g m' g' hpre hin
  have hf := @Cert.Pre_finite_scores_KernelIdeal.Moe.real_of_fn Cert.Pre_finite_scores_KernelIdeal.Moe.facts _ _ _ _ _ (hpre 0)
  rw [(hin 0).1, (hin 0).2.1] at hf
  refine ⟨Cert.ReferenceIdeal.Value.res_out0 m' 0, ?_, ?_⟩
  · refine (θ_run _ _ _).mono (fun _ h c => ⟨?_, (h.1 c 0).trans (Cert.KernelIdeal.Moe.finalA_in m c 0 rfl),
      (h.1 c 1).trans (Cert.KernelIdeal.Moe.finalA_in m c 1 rfl), (h.1 c 2).trans (Cert.KernelIdeal.Moe.finalA_in m c 2 rfl),
      (h.1 c 3).trans (Cert.KernelIdeal.Moe.finalA_in m c 3 rfl), (h.1 c 4).trans (Cert.KernelIdeal.Moe.finalA_in m c 4 rfl)⟩)
      (Cert.KernelIdeal.Moe.run_main m g)
    rw [Cert.ReferenceIdeal.Moe.out_eq]
    exact ((h.1 c 5).trans (Cert.KernelIdeal.Moe.finalA_out m c)).trans (outAt_eq m _ _ _ _ _ (fun c => (hin c).1) (fun c => (hin c).2.1)
      (fun c => (hin c).2.2.1) (fun c => (hin c).2.2.2.1) (fun c => (hin c).2.2.2.2) hf.1 hf.2 c)
  · exact (θ_run _ _ _).mono (fun _ h => h 0) (Cert.ReferenceIdeal.Value.run m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Reference.Kept
public import proofs.«01_k».proof.Proof.Value.Finite
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Every claim: the frames of the kernel, of the kernel over the reals and of the reference, that the second is the first,
    and that over the reals kernel and reference compute the same where the input and the router weights are finite. -/
theorem claim : Cert.Claim := ⟨Cert.Kernel.Gen.facts, Cert.KernelIdeal.Gen.facts, Cert.ReferenceIdeal.Gen.facts,
  Cert.Pre_finite_scores_KernelIdeal.Moe.facts, Cert.Pre_finite_scores_ReferenceIdeal.Moe.facts,
  fun m g _ => Cert.Kernel.Moe.kept m g,
  fun m g _ => Cert.KernelIdeal.Moe.kept m g,
  fun m g _ => Cert.KernelIdeal.Moe.kept m g,
  fun m g _ => Cert.ReferenceIdeal.Moe.kept m g,
  fun m g _ => Cert.ReferenceIdeal.Moe.kept m g,
  trivial,
  Cert.Moe.algebraic⟩

end Cert.Proof

end
